-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv39" .f32 0x3CD20D21#32 ((1 / 39 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x128 : Shape := ⟨3, ![2, 4096, 128]⟩
abbrev S128x22 : Shape := ⟨2, ![128, 22]⟩
abbrev S22 : Shape := ⟨1, ![22]⟩
abbrev S128x4 : Shape := ⟨2, ![128, 4]⟩
abbrev S4 : Shape := ⟨1, ![4]⟩
abbrev S172x48 : Shape := ⟨2, ![172, 48]⟩
abbrev S48 : Shape := ⟨1, ![48]⟩
abbrev S128x26 : Shape := ⟨2, ![128, 26]⟩
abbrev S26 : Shape := ⟨1, ![26]⟩
abbrev S1x26 : Shape := ⟨2, ![1, 26]⟩
abbrev S26x1 : Shape := ⟨2, ![26, 1]⟩
abbrev S2x4096x22 : Shape := ⟨3, ![2, 4096, 22]⟩
abbrev S2x4096x4 : Shape := ⟨3, ![2, 4096, 4]⟩
abbrev S2x27x4096 : Shape := ⟨3, ![2, 27, 4096]⟩
abbrev S1x1024x128 : Shape := ⟨3, ![1, 1024, 128]⟩
abbrev S1x1024x22 : Shape := ⟨3, ![1, 1024, 22]⟩
abbrev S1x1024x4 : Shape := ⟨3, ![1, 1024, 4]⟩
abbrev S1x27x1024 : Shape := ⟨3, ![1, 27, 1024]⟩
abbrev S1024x128 : Shape := ⟨2, ![1024, 128]⟩
abbrev S1024x26 : Shape := ⟨2, ![1024, 26]⟩
abbrev S1024x22 : Shape := ⟨2, ![1024, 22]⟩
abbrev S1024x4 : Shape := ⟨2, ![1024, 4]⟩
abbrev S26x1024 : Shape := ⟨2, ![26, 1024]⟩
abbrev S4x1024 : Shape := ⟨2, ![4, 1024]⟩
abbrev S1024 : Shape := ⟨1, ![1024]⟩
abbrev S1x1024 : Shape := ⟨2, ![1, 1024]⟩
abbrev S22x1024 : Shape := ⟨2, ![22, 1024]⟩
abbrev S27x1024 : Shape := ⟨2, ![27, 1024]⟩
abbrev S128x48 : Shape := ⟨2, ![128, 48]⟩
abbrev S22x48 : Shape := ⟨2, ![22, 48]⟩
abbrev S1x48 : Shape := ⟨2, ![1, 48]⟩
abbrev S2x4096x48 : Shape := ⟨3, ![2, 4096, 48]⟩
abbrev S1x256x128 : Shape := ⟨3, ![1, 256, 128]⟩
abbrev S1x27x4096 : Shape := ⟨3, ![1, 27, 4096]⟩
abbrev S1x4096x22 : Shape := ⟨3, ![1, 4096, 22]⟩
abbrev S1x256x4 : Shape := ⟨3, ![1, 256, 4]⟩
abbrev S1x256x48 : Shape := ⟨3, ![1, 256, 48]⟩
abbrev S1x4x4096 : Shape := ⟨3, ![1, 4, 4096]⟩
abbrev S4x4096 : Shape := ⟨2, ![4, 4096]⟩
abbrev S1x1x4096 : Shape := ⟨3, ![1, 1, 4096]⟩
abbrev S1x4096 : Shape := ⟨2, ![1, 4096]⟩
abbrev S256x4 : Shape := ⟨2, ![256, 4]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S4096x22 : Shape := ⟨2, ![4096, 22]⟩
abbrev S256x22 : Shape := ⟨2, ![256, 22]⟩
abbrev S256x128 : Shape := ⟨2, ![256, 128]⟩
abbrev S256x48 : Shape := ⟨2, ![256, 48]⟩

abbrev nBuf : Space → Nat
  | .hbm => 19
  | .vmem => 25
  | .smem => 0
  | _ => 0

abbrev bufTy : (tb : Table) → Fin (tcTables nBuf tb) → BufTy
  | .hbm, ⟨0, _⟩ => ⟨S2x4096x128, .f32⟩
  | .hbm, ⟨1, _⟩ => ⟨S128x22, .f32⟩
  | .hbm, ⟨2, _⟩ => ⟨S22, .f32⟩
  | .hbm, ⟨3, _⟩ => ⟨S128x4, .f32⟩
  | .hbm, ⟨4, _⟩ => ⟨S4, .f32⟩
  | .hbm, ⟨5, _⟩ => ⟨S172x48, .f32⟩
  | .hbm, ⟨6, _⟩ => ⟨S48, .f32⟩
  | .hbm, ⟨7, _⟩ => ⟨S128x26, .f32⟩
  | .hbm, ⟨8, _⟩ => ⟨S26, .f32⟩
  | .hbm, ⟨9, _⟩ => ⟨S1x26, .f32⟩
  | .hbm, ⟨10, _⟩ => ⟨S26x1, .f32⟩
  | .hbm, ⟨11, _⟩ => ⟨S2x4096x22, .f32⟩
  | .hbm, ⟨12, _⟩ => ⟨S2x4096x4, .f32⟩
  | .hbm, ⟨13, _⟩ => ⟨S2x27x4096, .f32⟩
  | .hbm, ⟨14, _⟩ => ⟨S128x48, .f32⟩
  | .hbm, ⟨15, _⟩ => ⟨S22x48, .f32⟩
  | .hbm, ⟨16, _⟩ => ⟨S22x48, .f32⟩
  | .hbm, ⟨17, _⟩ => ⟨S1x48, .f32⟩
  | .hbm, ⟨18, _⟩ => ⟨S2x4096x48, .f32⟩
  | .local _ .vmem, ⟨0, _⟩ => ⟨S1x1024x128, .f32⟩
  | .local _ .vmem, ⟨1, _⟩ => ⟨S1x1024x128, .f32⟩
  | .local _ .vmem, ⟨2, _⟩ => ⟨S128x26, .f32⟩
  | .local _ .vmem, ⟨3, _⟩ => ⟨S1x26, .f32⟩
  | .local _ .vmem, ⟨4, _⟩ => ⟨S26x1, .f32⟩
  | .local _ .vmem, ⟨5, _⟩ => ⟨S1x1024x22, .f32⟩
  | .local _ .vmem, ⟨6, _⟩ => ⟨S1x1024x22, .f32⟩
  | .local _ .vmem, ⟨7, _⟩ => ⟨S1x1024x4, .f32⟩
  | .local _ .vmem, ⟨8, _⟩ => ⟨S1x1024x4, .f32⟩
  | .local _ .vmem, ⟨9, _⟩ => ⟨S1x27x1024, .f32⟩
  | .local _ .vmem, ⟨10, _⟩ => ⟨S1x27x1024, .f32⟩
  | .local _ .vmem, ⟨11, _⟩ => ⟨S1x256x128, .f32⟩
  | .local _ .vmem, ⟨12, _⟩ => ⟨S1x256x128, .f32⟩
  | .local _ .vmem, ⟨13, _⟩ => ⟨S1x27x4096, .f32⟩
  | .local _ .vmem, ⟨14, _⟩ => ⟨S1x27x4096, .f32⟩
  | .local _ .vmem, ⟨15, _⟩ => ⟨S1x4096x22, .f32⟩
  | .local _ .vmem, ⟨16, _⟩ => ⟨S1x4096x22, .f32⟩
  | .local _ .vmem, ⟨17, _⟩ => ⟨S1x256x4, .f32⟩
  | .local _ .vmem, ⟨18, _⟩ => ⟨S1x256x4, .f32⟩
  | .local _ .vmem, ⟨19, _⟩ => ⟨S128x48, .f32⟩
  | .local _ .vmem, ⟨20, _⟩ => ⟨S22x48, .f32⟩
  | .local _ .vmem, ⟨21, _⟩ => ⟨S22x48, .f32⟩
  | .local _ .vmem, ⟨22, _⟩ => ⟨S1x48, .f32⟩
  | .local _ .vmem, ⟨23, _⟩ => ⟨S1x256x48, .f32⟩
  | .local _ .vmem, ⟨24, _⟩ => ⟨S1x256x48, .f32⟩
  | _, _ => ⟨S2x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x26 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x26 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S26x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x22 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x27x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 16], ![false, false]⟩

@[reducible] def k1_t1_loop : Scf.Loop 32 :=
  let c0_i32_9 : BitVec 32 := 0#32
  let c4096_i32 : BitVec 32 := 4096#32
  let v19 : BitVec 32 := Scalar.addi c0_i32_9 c4096_i32
  let c1_i32 : BitVec 32 := 1#32
  ⟨c0_i32_9, v19, c1_i32⟩
@[reducible] def k1_t2_loop : Scf.Loop 32 :=
  let c0_i32_12 : BitVec 32 := 0#32
  let c31_i32 : BitVec 32 := 31#32
  let v22 : BitVec 32 := Scalar.addi c0_i32_12 c31_i32
  let c1_i32_13 : BitVec 32 := 1#32
  ⟨c0_i32_12, v22, c1_i32_13⟩
@[reducible] def k1_t3_loop : Scf.Loop 32 :=
  let c0_i32_316 : BitVec 32 := 0#32
  let c12_i32 : BitVec 32 := 12#32
  let v630 : BitVec 32 := Scalar.addi c0_i32_316 c12_i32
  let c1_i32_317 : BitVec 32 := 1#32
  ⟨c0_i32_316, v630, c1_i32_317⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x27x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x22 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S128x48 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S22x48 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S22x48 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x48 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x48 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== KernelIdeal.lean ====
variable {F : FTy → Type} [FloatOps F] [Named F]
def κ : String → Option EReal := fun
  | "inv39" => some ((1 / 39 : ℝ) : EReal)
  | _ => none
-- ==== ReferenceIdeal.lean ====
abbrev S2x4096x128 : Shape := ⟨3, ![2, 4096, 128]⟩
abbrev S128x22 : Shape := ⟨2, ![128, 22]⟩
abbrev S22 : Shape := ⟨1, ![22]⟩
abbrev S128x4 : Shape := ⟨2, ![128, 4]⟩
abbrev S4 : Shape := ⟨1, ![4]⟩
abbrev S172x48 : Shape := ⟨2, ![172, 48]⟩
abbrev S48 : Shape := ⟨1, ![48]⟩
abbrev S2x4096x22 : Shape := ⟨3, ![2, 4096, 22]⟩
abbrev S1x1x22 : Shape := ⟨3, ![1, 1, 22]⟩
abbrev S2x4096x4 : Shape := ⟨3, ![2, 4096, 4]⟩
abbrev S1x1x4 : Shape := ⟨3, ![1, 1, 4]⟩
abbrev S2x4x4096 : Shape := ⟨3, ![2, 4, 4096]⟩
abbrev S2x4096x4096 : Shape := ⟨3, ![2, 4096, 4096]⟩
abbrev S_ : Shape := ⟨0, ![]⟩
abbrev S2x4096 : Shape := ⟨2, ![2, 4096]⟩
abbrev S2x4096x1 : Shape := ⟨3, ![2, 4096, 1]⟩
abbrev S2x1x4096 : Shape := ⟨3, ![2, 1, 4096]⟩
abbrev S2x4096x40 : Shape := ⟨3, ![2, 4096, 40]⟩
abbrev S2x4096x40x1 : Shape := ⟨4, ![2, 4096, 40, 1]⟩
abbrev S2x4096x40x22 : Shape := ⟨4, ![2, 4096, 40, 22]⟩
abbrev S2x4096x39x1 : Shape := ⟨4, ![2, 4096, 39, 1]⟩
abbrev S2x4096x39x22 : Shape := ⟨4, ![2, 4096, 39, 22]⟩
abbrev S2x4096x44 : Shape := ⟨3, ![2, 4096, 44]⟩
abbrev S2x4096x172 : Shape := ⟨3, ![2, 4096, 172]⟩
abbrev S2x4096x48 : Shape := ⟨3, ![2, 4096, 48]⟩
abbrev S1x1x48 : Shape := ⟨3, ![1, 1, 48]⟩

abbrev nBuf : Space → Nat
  | .hbm => 72
  | .vmem => 0
  | .smem => 0
  | _ => 0

abbrev bufTy : (tb : Table) → Fin (tcTables nBuf tb) → BufTy
  | .hbm, ⟨0, _⟩ => ⟨S2x4096x128, .f32⟩
  | .hbm, ⟨1, _⟩ => ⟨S128x22, .f32⟩
  | .hbm, ⟨2, _⟩ => ⟨S22, .f32⟩
  | .hbm, ⟨3, _⟩ => ⟨S128x4, .f32⟩
  | .hbm, ⟨4, _⟩ => ⟨S4, .f32⟩
  | .hbm, ⟨5, _⟩ => ⟨S172x48, .f32⟩
  | .hbm, ⟨6, _⟩ => ⟨S48, .f32⟩
  | .hbm, ⟨7, _⟩ => ⟨S2x4096x22, .f32⟩
  | .hbm, ⟨8, _⟩ => ⟨S1x1x22, .f32⟩
  | .hbm, ⟨9, _⟩ => ⟨S2x4096x22, .f32⟩
  | .hbm, ⟨10, _⟩ => ⟨S2x4096x22, .f32⟩
  | .hbm, ⟨11, _⟩ => ⟨S2x4096x4, .f32⟩
  | .hbm, ⟨12, _⟩ => ⟨S1x1x4, .f32⟩
  | .hbm, ⟨13, _⟩ => ⟨S2x4096x4, .f32⟩
  | .hbm, ⟨14, _⟩ => ⟨S2x4096x4, .f32⟩
  | .hbm, ⟨15, _⟩ => ⟨S2x4x4096, .f32⟩
  | .hbm, ⟨16, _⟩ => ⟨S2x4096x4096, .f32⟩
  | .hbm, ⟨17, _⟩ => ⟨S_, .f32⟩
  | .hbm, ⟨18, _⟩ => ⟨S2x4096x4096, .f32⟩
  | .hbm, ⟨19, _⟩ => ⟨S2x4096x4096, .f32⟩
  | .hbm, ⟨20, _⟩ => ⟨S2x4096x4, .f32⟩
  | .hbm, ⟨21, _⟩ => ⟨S_, .f32⟩
  | .hbm, ⟨22, _⟩ => ⟨S2x4096, .f32⟩
  | .hbm, ⟨23, _⟩ => ⟨S2x4096x1, .f32⟩
  | .hbm, ⟨24, _⟩ => ⟨S2x4096x4, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S2x1x4096, .f32⟩
  | .hbm, ⟨29, _⟩ => ⟨S2x4096x4096, .f32⟩
  | .hbm, ⟨30, _⟩ => ⟨S2x4096x4096, .f32⟩
  | .hbm, ⟨31, _⟩ => ⟨S2x4096x4096, .f32⟩
  | .hbm, ⟨32, _⟩ => ⟨S2x4096x4096, .f32⟩
  | .hbm, ⟨33, _⟩ => ⟨S2x4096x4096, .f32⟩
  | .hbm, ⟨34, _⟩ => ⟨S2x4096x4096, .f32⟩
  | .hbm, ⟨35, _⟩ => ⟨S2x4096x40, .f32⟩
  | .hbm, ⟨36, _⟩ => ⟨S2x4096x40, .i32⟩
  | .hbm, ⟨37, _⟩ => ⟨S2x4096x40, .f32⟩
  | .hbm, ⟨38, _⟩ => ⟨S_, .i32⟩
  | .hbm, ⟨39, _⟩ => ⟨S2x4096x40, .i32⟩
  | .hbm, ⟨40, _⟩ => ⟨S2x4096x40, .i1⟩
  | .hbm, ⟨41, _⟩ => ⟨S_, .i32⟩
  | .hbm, ⟨42, _⟩ => ⟨S2x4096x40, .i32⟩
  | .hbm, ⟨43, _⟩ => ⟨S2x4096x40, .i32⟩
  | .hbm, ⟨44, _⟩ => ⟨S2x4096x40, .i32⟩
  | .hbm, ⟨45, _⟩ => ⟨S2x4096x40x1, .i32⟩
  | .hbm, ⟨46, _⟩ => ⟨S2x4096x40x22, .f32⟩
  | .hbm, ⟨47, _⟩ => ⟨S2x4096x40x1, .f32⟩
  | .hbm, ⟨48, _⟩ => ⟨S_, .f32⟩
  | .hbm, ⟨49, _⟩ => ⟨S2x4096x40x1, .f32⟩
  | .hbm, ⟨50, _⟩ => ⟨S2x4096x40x1, .f32⟩
  | .hbm, ⟨51, _⟩ => ⟨S2x4096x40x1, .f32⟩
  | .hbm, ⟨52, _⟩ => ⟨S2x4096x40x1, .f32⟩
  | .hbm, ⟨53, _⟩ => ⟨S2x4096x40x1, .f32⟩
  | .hbm, ⟨54, _⟩ => ⟨S2x4096x39x1, .f32⟩
  | .hbm, ⟨55, _⟩ => ⟨S2x4096x39x22, .f32⟩
  | .hbm, ⟨56, _⟩ => ⟨S2x4096x39x22, .f32⟩
  | .hbm, ⟨57, _⟩ => ⟨S2x4096x39x22, .f32⟩
  | .hbm, ⟨58, _⟩ => ⟨S_, .f32⟩
  | .hbm, ⟨59, _⟩ => ⟨S2x4096x22, .f32⟩
  | .hbm, ⟨60, _⟩ => ⟨S_, .f32⟩
  | .hbm, ⟨61, _⟩ => ⟨S2x4096x22, .f32⟩
  | .hbm, ⟨62, _⟩ => ⟨S_, .f32⟩
  | .hbm, ⟨63, _⟩ => ⟨S2x4096x22, .f32⟩
  | .hbm, ⟨64, _⟩ => ⟨S2x4096x22, .f32⟩
  | .hbm, ⟨65, _⟩ => ⟨S2x4096x44, .f32⟩
  | .hbm, ⟨66, _⟩ => ⟨S2x4096x172, .f32⟩
  | .hbm, ⟨67, _⟩ => ⟨S2x4096x48, .f32⟩
  | .hbm, ⟨68, _⟩ => ⟨S1x1x48, .f32⟩
  | .hbm, ⟨69, _⟩ => ⟨S2x4096x48, .f32⟩
  | .hbm, ⟨70, _⟩ => ⟨S2x4096x48, .f32⟩
  | .hbm, ⟨71, _⟩ => ⟨S2x4096x48, .f32⟩
  | _, _ => ⟨S2x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_values : Ref sig .tc := ⟨.hbm, 35, rfl⟩
abbrev main_indices : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-- The order key of a block: the count loop, folded. -/
def keyOf (a : Vec F S1x4x4096 .f32) (b : Vec F S1x1x4096 .f32) (c : Vec F S1x256x4 .f32) : IVec S256x4096 32 :=
  Scf.fold (k1_pay4 a b c) k1_pay3

/-- The fortieth smallest key of each row: the bisection, folded. -/
def kthOf (key : IVec S256x4096 32) : IVec S256x1 32 := Scf.fold (k1_pay6 key) k1_pay5

/-- Whether the kernel's scalar flag counts as true. -/
def flag (x : F .f32) : Prop :=
  Scalar.cmpi .ne (Scalar.extui (Scalar.cmpf .ogt x (Scalar.ofBits .f32 0x00000000#32)) : BitVec 32) 0#32 = 1#1

instance (x : F .f32) : Decidable (flag x) := inferInstanceAs (Decidable (_ = _))

/-- The lanes' numbers. -/
def lanes : IVec S256x4096 32 := iota .tc S256x4096 32 [1] iota_S256x4096_d1_w32

/-- The last tied lane taken: the conditional's value, either branch. -/
def lastTie (tie : IVec S256x4096 1) (need : IVec S256x1 32) : IVec S256x1 32 :=
  if flag (k1_pay10 (F := F) tie need) then k1_pay11 else Scf.fold (k1_pay13 tie need lanes) k1_pay12

/-- What is summed up over the chosen lanes, or the greatest of it: one column's conditional. -/
def colMax (sel : IVec S256x4096 1) (L w : FVec F S256x4096 .f32) (row : Vec F S1x1x4096 .f32) : FVec F S256x1 .f32 :=
  if flag (k1_pay21 sel L row) then k1_pay22 sel w row else k1_pay23 sel L row

/-- The last tied lane of a block with these keys. -/
def tselOf (key : IVec S256x4096 32) : IVec S256x1 32 :=
  lastTie (F := F) (k1_pay8 key (kthOf key)) (k1_pay9 key (kthOf key))

/-- The chosen lanes of a block with these keys. -/
def selOf (key : IVec S256x4096 32) : IVec S256x4096 1 :=
  k1_pay14 key (k1_pay7 key (kthOf key)) (k1_pay8 key (kthOf key)) lanes (tselOf (F := F) key)

/-- The weights: the exponential on the chosen lanes, zero elsewhere. -/
def wOf (D : FVec F S256x4096 .f32) (key : IVec S256x4096 32) : FVec F S256x4096 .f32 :=
  k1_pay16 D key (k1_pay7 key (kthOf key)) (k1_pay8 key (kthOf key)) lanes (tselOf (F := F) key)

/-- The mean of each feature. -/
def meanOf (D : FVec F S256x4096 .f32) (key : IVec S256x4096 32) (prop : Vec F S1x4096x22 .f32) : FVec F S256x22 .f32 :=
  k1_pay17 D key (k1_pay7 key (kthOf key)) (k1_pay8 key (kthOf key)) lanes (tselOf (F := F) key) prop

/-- The parts of the output that read the vertex and the greatest features. -/
def headOf (cols : Fin 22 → FVec F S256x1 .f32) (x : Vec F S1x256x128 .f32) (wv : Vec F S128x48 .f32) (wm : Vec F S22x48 .f32) :
    FVec F S256x48 .f32 :=
  k1_pay140 (cols 0) (cols 1) (cols 2) (cols 3) (cols 4) (cols 5) (cols 6) (cols 7) (cols 8) (cols 9) (cols 10) (cols 11) (cols 12) (cols 13) (cols 14) (cols 15) (cols 16) (cols 17) (cols 18) (cols 19) (cols 20) (cols 21) x wv wm

/-- The place of feature `p`'s row among the transposed ones. -/
abbrev rowRect (p : Fin 22) : Rect S1x27x4096 := Rect.unit (s := S1x27x4096) ![0, 5 + p.1, 0] S1x1x4096.size
  (by have := p.2; intro a; fin_cases a <;> simp [S1x1x4096, S1x27x4096] <;> omega)

/-- What one block of the main kernel stores. -/
def blockOut (dT : Vec F S1x4x4096 .f32) (nr : Vec F S1x1x4096 .f32) (dm : Vec F S1x256x4 .f32) (pr : Vec F S1x4096x22 .f32)
    (rows : Fin 22 → Vec F S1x1x4096 .f32) (x : Vec F S1x256x128 .f32) (wv : Vec F S128x48 .f32) (wm wa : Vec F S22x48 .f32)
    (bo : Vec F S1x48 .f32) : FVec F S1x256x48 .f32 :=
  k1_pay1 (meanOf (k1_pay2 dT nr dm) (keyOf dT nr dm) pr)
    (headOf (fun p => colMax (selOf (F := F) (keyOf dT nr dm)) (k1_pay15 (k1_pay2 dT nr dm)) (wOf (k1_pay2 dT nr dm) (keyOf dT nr dm)) (rows p)) x wv wm)
    (k1_pay141 wa) bo

/-- What the main kernel leaves in its output window's buffer, from its input windows' blocks. -/
def mainOut (x0 : Vec F S1x256x128 .f32) (x1 : Vec F S1x27x4096 .f32) (x2 : Vec F S1x4096x22 .f32) (x3 : Vec F S1x256x4 .f32)
    (x4 : Vec F S128x48 .f32) (x5 x6 : Vec F S22x48 .f32) (x7 : Vec F S1x48 .f32) : Vec F S1x256x48 .f32 :=
  View.canon [⟨Rect.unit (s := S1x256x48) ![0, 0, 0] S1x256x48.size inb_S1x256x48_S1x256x48_0_0_0,
    blockOut (View.ld x1 (Rect.unit (s := S1x27x4096) ![0, 0, 0] S1x4x4096.size inb_S1x27x4096_S1x4x4096_0_0_0))
      (View.ld x1 (Rect.unit (s := S1x27x4096) ![0, 4, 0] S1x1x4096.size inb_S1x27x4096_S1x1x4096_0_4_0))
      (View.ld x3 (Rect.unit (s := S1x256x4) ![0, 0, 0] S1x256x4.size inb_S1x256x4_S1x256x4_0_0_0))
      (View.ld x2 (Rect.unit (s := S1x4096x22) ![0, 0, 0] S1x4096x22.size inb_S1x4096x22_S1x4096x22_0_0_0))
      (fun p => View.ld x1 (rowRect p))
      (View.ld x0 (Rect.unit (s := S1x256x128) ![0, 0, 0] S1x256x128.size inb_S1x256x128_S1x256x128_0_0_0))
      (View.ld x4 (Rect.unit (s := S128x48) ![0, 0] S128x48.size inb_S128x48_S128x48_0_0))
      (View.ld x5 (Rect.unit (s := S22x48) ![0, 0] S22x48.size inb_S22x48_S22x48_0_0))
      (View.ld x6 (Rect.unit (s := S22x48) ![0, 0] S22x48.size inb_S22x48_S22x48_0_0))
      (View.ld x7 (Rect.unit (s := S1x48) ![0, 0] S1x48.size inb_S1x48_S1x48_0_0))⟩]

/-- Its one store covers the buffer. -/
theorem mainCover (p0 : Vec F S1x256x48 .f32) (y : S1x256x48.Idx) :
    ∃ pc ∈ ([⟨Rect.unit (s := S1x256x48) ![0, 0, 0] S1x256x48.size inb_S1x256x48_S1x256x48_0_0_0, p0⟩] : List (View.Piece (Elt F) S1x256x48 .f32)), y ∈ pc.1.set :=
  View.cover_of_tiled [⟨Rect.unit (s := S1x256x48) ![0, 0, 0] S1x256x48.size inb_S1x256x48_S1x256x48_0_0_0, p0⟩] S1x256x48.size (by rfl) y

local notation "𝕄" => MT nD τ sig Unit (Elt F) ℕ (UR sig nD τ) ℕ

theorem loopPure {E : Type → Type} {σ : Type} {w : Nat} (l : Scf.Loop w) (h : l.OK) (init : σ) (body : Fin l.trips → σ → Prog E σ)
    (g : Fin l.trips → σ → σ) (hg : ∀ k x, body k x = .ret (g k x)) : Scf.Loop.for l h init body = .ret (Scf.fold g init) :=
  Scf.for_pure _ _ _ h init body g hg

theorem ite_jp {E : Type → Type} {α β : Type} (c : Prop) [Decidable c] (a b : α) (f : α → Prog E β) :
    (if c then (pure a : Prog E α) >>= f else (pure b : Prog E α) >>= f) = (pure (if c then a else b) : Prog E α) >>= f := by
  split <;> rfl

theorem ite_jp' {E : Type → Type} {α β : Type} (c : Prop) [Decidable c] (a b : α) (f : α → Prog E β) :
    (if c then (pure a : Prog E α) >>= f else (pure b : Prog E α) >>= fun v => (pure v : Prog E α) >>= f) =
      (pure (if c then a else b) : Prog E α) >>= f := by
  split <;> rfl

theorem loop1 (i : grid1.Coords) (arg2 : Memref sig .tc .vmem S1x256x128 .f32) (harg2 : arg2.IsWhole) (arg3 : Memref sig .tc .vmem S1x27x4096 .f32) (harg3 : arg3.IsWhole) (arg4 : Memref sig .tc .vmem S1x4096x22 .f32) (harg4 : arg4.IsWhole) (arg5 : Memref sig .tc .vmem S1x256x4 .f32) (harg5 : arg5.IsWhole) (arg6 : Memref sig .tc .vmem S128x48 .f32) (harg6 : arg6.IsWhole) (arg7 : Memref sig .tc .vmem S22x48 .f32) (harg7 : arg7.IsWhole) (arg8 : Memref sig .tc .vmem S22x48 .f32) (harg8 : arg8.IsWhole) (arg9 : Memref sig .tc .vmem S1x48 .f32) (harg9 : arg9.IsWhole) (arg10 : Memref sig .tc .vmem S1x256x48 .f32) (harg10 : arg10.IsWhole) (h init a b c) :
    Scf.Loop.for k1_t1_loop h init (k1_t1_body (F := F) i arg2 harg2 arg3 harg3 arg4 harg4 arg5 harg5 arg6 harg6 arg7 harg7 arg8 harg8 arg9 harg9 arg10 harg10 a b c) = pure (Scf.fold (k1_pay4 a b c) init) :=
  loopPure _ _ _ _ _ fun _ _ => rfl

theorem loop2 (i : grid1.Coords) (arg2 : Memref sig .tc .vmem S1x256x128 .f32) (harg2 : arg2.IsWhole) (arg3 : Memref sig .tc .vmem S1x27x4096 .f32) (harg3 : arg3.IsWhole) (arg4 : Memref sig .tc .vmem S1x4096x22 .f32) (harg4 : arg4.IsWhole) (arg5 : Memref sig .tc .vmem S1x256x4 .f32) (harg5 : arg5.IsWhole) (arg6 : Memref sig .tc .vmem S128x48 .f32) (harg6 : arg6.IsWhole) (arg7 : Memref sig .tc .vmem S22x48 .f32) (harg7 : arg7.IsWhole) (arg8 : Memref sig .tc .vmem S22x48 .f32) (harg8 : arg8.IsWhole) (arg9 : Memref sig .tc .vmem S1x48 .f32) (harg9 : arg9.IsWhole) (arg10 : Memref sig .tc .vmem S1x256x48 .f32) (harg10 : arg10.IsWhole) (h init a) :
    Scf.Loop.for k1_t2_loop h init (k1_t2_body (F := F) i arg2 harg2 arg3 harg3 arg4 harg4 arg5 harg5 arg6 harg6 arg7 harg7 arg8 harg8 arg9 harg9 arg10 harg10 a) = pure (Scf.fold (k1_pay6 a) init) :=
  loopPure _ _ _ _ _ fun _ _ => rfl

theorem loop3 (i : grid1.Coords) (arg2 : Memref sig .tc .vmem S1x256x128 .f32) (harg2 : arg2.IsWhole) (arg3 : Memref sig .tc .vmem S1x27x4096 .f32) (harg3 : arg3.IsWhole) (arg4 : Memref sig .tc .vmem S1x4096x22 .f32) (harg4 : arg4.IsWhole) (arg5 : Memref sig .tc .vmem S1x256x4 .f32) (harg5 : arg5.IsWhole) (arg6 : Memref sig .tc .vmem S128x48 .f32) (harg6 : arg6.IsWhole) (arg7 : Memref sig .tc .vmem S22x48 .f32) (harg7 : arg7.IsWhole) (arg8 : Memref sig .tc .vmem S22x48 .f32) (harg8 : arg8.IsWhole) (arg9 : Memref sig .tc .vmem S1x48 .f32) (harg9 : arg9.IsWhole) (arg10 : Memref sig .tc .vmem S1x256x48 .f32) (harg10 : arg10.IsWhole) (h init a b c d e f) :
    Scf.Loop.for k1_t3_loop h init (k1_t3_body (F := F) i arg2 harg2 arg3 harg3 arg4 harg4 arg5 harg5 arg6 harg6 arg7 harg7 arg8 harg8 arg9 harg9 arg10 harg10 a b c d e f) = pure (Scf.fold (k1_pay13 d e f) init) :=
  loopPure _ _ _ _ _ fun _ _ => rfl

/-- The main kernel's body with its values in one form: the loads in order, then the store of `blockOut`. -/
def mainProg (i : grid1.Coords) (arg2 : Memref sig .tc .vmem S1x256x128 .f32) (harg2 : arg2.IsWhole) (arg3 : Memref sig .tc .vmem S1x27x4096 .f32) (harg3 : arg3.IsWhole) (arg4 : Memref sig .tc .vmem S1x4096x22 .f32) (harg4 : arg4.IsWhole) (arg5 : Memref sig .tc .vmem S1x256x4 .f32) (harg5 : arg5.IsWhole) (arg6 : Memref sig .tc .vmem S128x48 .f32) (harg6 : arg6.IsWhole) (arg7 : Memref sig .tc .vmem S22x48 .f32) (harg7 : arg7.IsWhole) (arg8 : Memref sig .tc .vmem S22x48 .f32) (harg8 : arg8.IsWhole) (arg9 : Memref sig .tc .vmem S1x48 .f32) (harg9 : arg9.IsWhole) (arg10 : Memref sig .tc .vmem S1x256x48 .f32) (harg10 : arg10.IsWhole) : Prog (TpuEff nD τ sig (Elt F) Λ₀ .tc) PUnit := do
  let v0 : Vec F S1x4x4096 .f32 ← Prog.lift (.load arg3 (Rect.unit (s := S1x27x4096) ![0, 0, 0] S1x4x4096.size inb_S1x27x4096_S1x4x4096_0_0_0).toLoadRect (View.loadsAt_vmem h_S1x4x4096))
  let v2 : Vec F S1x1x4096 .f32 ← Prog.lift (.load arg3 (Rect.unit (s := S1x27x4096) ![0, 4, 0] S1x1x4096.size inb_S1x27x4096_S1x1x4096_0_4_0).toLoadRect (View.loadsAt_vmem h_S1x1x4096))
  let v4 : Vec F S1x256x4 .f32 ← Prog.lift (.load arg5 (Rect.unit (s := S1x256x4) ![0, 0, 0] S1x256x4.size inb_S1x256x4_S1x256x4_0_0_0).toLoadRect (View.loadsAt_vmem h_S1x256x4))
  let v72 : Vec F S1x4096x22 .f32 ← Prog.lift (.load arg4 (Rect.unit (s := S1x4096x22) ![0, 0, 0] S1x4096x22.size inb_S1x4096x22_S1x4096x22_0_0_0).toLoadRect (View.loadsAt_vmem h_S1x4096x22))
  let v79 : Vec F S1x1x4096 .f32 ← Prog.lift (.load arg3 (Rect.unit (s := S1x27x4096) ![0, 5, 0] S1x1x4096.size inb_S1x27x4096_S1x1x4096_0_5_0).toLoadRect (View.loadsAt_vmem h_S1x1x4096))
  let v103 : Vec F S1x1x4096 .f32 ← Prog.lift (.load arg3 (Rect.unit (s := S1x27x4096) ![0, 6, 0] S1x1x4096.size inb_S1x27x4096_S1x1x4096_0_6_0).toLoadRect (View.loadsAt_vmem h_S1x1x4096))
  let v127 : Vec F S1x1x4096 .f32 ← Prog.lift (.load arg3 (Rect.unit (s := S1x27x4096) ![0, 7, 0] S1x1x4096.size inb_S1x27x4096_S1x1x4096_0_7_0).toLoadRect (View.loadsAt_vmem h_S1x1x4096))
  let v151 : Vec F S1x1x4096 .f32 ← Prog.lift (.load arg3 (Rect.unit (s := S1x27x4096) ![0, 8, 0] S1x1x4096.size inb_S1x27x4096_S1x1x4096_0_8_0).toLoadRect (View.loadsAt_vmem h_S1x1x4096))
  let v175 : Vec F S1x1x4096 .f32 ← Prog.lift (.load arg3 (Rect.unit (s := S1x27x4096) ![0, 9, 0] S1x1x4096.size inb_S1x27x4096_S1x1x4096_0_9_0).toLoadRect (View.loadsAt_vmem h_S1x1x4096))
  let v199 : Vec F S1x1x4096 .f32 ← Prog.lift (.load arg3 (Rect.unit (s := S1x27x4096) ![0, 10, 0] S1x1x4096.size inb_S1x27x4096_S1x1x4096_0_10_0).toLoadRect (View.loadsAt_vmem h_S1x1x4096))
  let v223 : Vec F S1x1x4096 .f32 ← Prog.lift (.load arg3 (Rect.unit (s := S1x27x4096) ![0, 11, 0] S1x1x4096.size inb_S1x27x4096_S1x1x4096_0_11_0).toLoadRect (View.loadsAt_vmem h_S1x1x4096))
  let v247 : Vec F S1x1x4096 .f32 ← Prog.lift (.load arg3 (Rect.unit (s := S1x27x4096) ![0, 12, 0] S1x1x4096.size inb_S1x27x4096_S1x1x4096_0_12_0).toLoadRect (View.loadsAt_vmem h_S1x1x4096))
  let v271 : Vec F S1x1x4096 .f32 ← Prog.lift (.load arg3 (Rect.unit (s := S1x27x4096) ![0, 13, 0] S1x1x4096.size inb_S1x27x4096_S1x1x4096_0_13_0).toLoadRect (View.loadsAt_vmem h_S1x1x4096))
  let v295 : Vec F S1x1x4096 .f32 ← Prog.lift (.load arg3 (Rect.unit (s := S1x27x4096) ![0, 14, 0] S1x1x4096.size inb_S1x27x4096_S1x1x4096_0_14_0).toLoadRect (View.loadsAt_vmem h_S1x1x4096))
  let v319 : Vec F S1x1x4096 .f32 ← Prog.lift (.load arg3 (Rect.unit (s := S1x27x4096) ![0, 15, 0] S1x1x4096.size inb_S1x27x4096_S1x1x4096_0_15_0).toLoadRect (View.loadsAt_vmem h_S1x1x4096))
  let v343 : Vec F S1x1x4096 .f32 ← Prog.lift (.load arg3 (Rect.unit (s := S1x27x4096) ![0, 16, 0] S1x1x4096.size inb_S1x27x4096_S1x1x4096_0_16_0).toLoadRect (View.loadsAt_vmem h_S1x1x4096))
  let v367 : Vec F S1x1x4096 .f32 ← Prog.lift (.load arg3 (Rect.unit (s := S1x27x4096) ![0, 17, 0] S1x1x4096.size inb_S1x27x4096_S1x1x4096_0_17_0).toLoadRect (View.loadsAt_vmem h_S1x1x4096))
  let v391 : Vec F S1x1x4096 .f32 ← Prog.lift (.load arg3 (Rect.unit (s := S1x27x4096) ![0, 18, 0] S1x1x4096.size inb_S1x27x4096_S1x1x4096_0_18_0).toLoadRect (View.loadsAt_vmem h_S1x1x4096))
  let v415 : Vec F S1x1x4096 .f32 ← Prog.lift (.load arg3 (Rect.unit (s := S1x27x4096) ![0, 19, 0] S1x1x4096.size inb_S1x27x4096_S1x1x4096_0_19_0).toLoadRect (View.loadsAt_vmem h_S1x1x4096))
  let v439 : Vec F S1x1x4096 .f32 ← Prog.lift (.load arg3 (Rect.unit (s := S1x27x4096) ![0, 20, 0] S1x1x4096.size inb_S1x27x4096_S1x1x4096_0_20_0).toLoadRect (View.loadsAt_vmem h_S1x1x4096))
  let v463 : Vec F S1x1x4096 .f32 ← Prog.lift (.load arg3 (Rect.unit (s := S1x27x4096) ![0, 21, 0] S1x1x4096.size inb_S1x27x4096_S1x1x4096_0_21_0).toLoadRect (View.loadsAt_vmem h_S1x1x4096))
  let v487 : Vec F S1x1x4096 .f32 ← Prog.lift (.load arg3 (Rect.unit (s := S1x27x4096) ![0, 22, 0] S1x1x4096.size inb_S1x27x4096_S1x1x4096_0_22_0).toLoadRect (View.loadsAt_vmem h_S1x1x4096))
  let v511 : Vec F S1x1x4096 .f32 ← Prog.lift (.load arg3 (Rect.unit (s := S1x27x4096) ![0, 23, 0] S1x1x4096.size inb_S1x27x4096_S1x1x4096_0_23_0).toLoadRect (View.loadsAt_vmem h_S1x1x4096))
  let v535 : Vec F S1x1x4096 .f32 ← Prog.lift (.load arg3 (Rect.unit (s := S1x27x4096) ![0, 24, 0] S1x1x4096.size inb_S1x27x4096_S1x1x4096_0_24_0).toLoadRect (View.loadsAt_vmem h_S1x1x4096))
  let v559 : Vec F S1x1x4096 .f32 ← Prog.lift (.load arg3 (Rect.unit (s := S1x27x4096) ![0, 25, 0] S1x1x4096.size inb_S1x27x4096_S1x1x4096_0_25_0).toLoadRect (View.loadsAt_vmem h_S1x1x4096))
  let v583 : Vec F S1x1x4096 .f32 ← Prog.lift (.load arg3 (Rect.unit (s := S1x27x4096) ![0, 26, 0] S1x1x4096.size inb_S1x27x4096_S1x1x4096_0_26_0).toLoadRect (View.loadsAt_vmem h_S1x1x4096))
  let v608 : Vec F S1x256x128 .f32 ← Prog.lift (.load arg2 (Rect.unit (s := S1x256x128) ![0, 0, 0] S1x256x128.size inb_S1x256x128_S1x256x128_0_0_0).toLoadRect (View.loadsAt_vmem h_S1x256x128))
  let v610 : Vec F S128x48 .f32 ← Prog.lift (.load arg6 (Rect.unit (s := S128x48) ![0, 0] S128x48.size inb_S128x48_S128x48_0_0).toLoadRect (View.loadsAt_vmem h_S128x48))
  let v613 : Vec F S22x48 .f32 ← Prog.lift (.load arg7 (Rect.unit (s := S22x48) ![0, 0] S22x48.size inb_S22x48_S22x48_0_0).toLoadRect (View.loadsAt_vmem h_S22x48))
  let v617 : Vec F S22x48 .f32 ← Prog.lift (.load arg8 (Rect.unit (s := S22x48) ![0, 0] S22x48.size inb_S22x48_S22x48_0_0).toLoadRect (View.loadsAt_vmem h_S22x48))
  let v621 : Vec F S1x48 .f32 ← Prog.lift (.load arg9 (Rect.unit (s := S1x48) ![0, 0] S1x48.size inb_S1x48_S1x48_0_0).toLoadRect (View.loadsAt_vmem h_S1x48))
  let v626 : Vec F S1x256x48 .f32 ← Prog.lift (.load arg10 (Rect.unit (s := S1x256x48) ![0, 0, 0] S1x256x48.size inb_S1x256x48_S1x256x48_0_0_0).toLoadRect (View.loadsAt_vmem h_S1x256x48))
  Prog.lift (.store arg10 (Rect.unit (s := S1x256x48) ![0, 0, 0] S1x256x48.size inb_S1x256x48_S1x256x48_0_0_0) (blockOut v0 v2 v4 v72 ![v79, v103, v127, v151, v175, v199, v223, v247, v271, v295, v319, v343, v367, v391, v415, v439, v463, v487, v511, v535, v559, v583] v608 v610 v613 v617 v621) Finset.univ (View.stores_vmem_bits_univ h_S1x256x48 rfl) (.inl rfl))
  pure ⟨⟩

set_option maxRecDepth 200000 in
set_option maxHeartbeats 4000000 in
theorem mainProg_eq (i : grid1.Coords) (arg2 : Memref sig .tc .vmem S1x256x128 .f32) (harg2 : arg2.IsWhole) (arg3 : Memref sig .tc .vmem S1x27x4096 .f32) (harg3 : arg3.IsWhole) (arg4 : Memref sig .tc .vmem S1x4096x22 .f32) (harg4 : arg4.IsWhole) (arg5 : Memref sig .tc .vmem S1x256x4 .f32) (harg5 : arg5.IsWhole) (arg6 : Memref sig .tc .vmem S128x48 .f32) (harg6 : arg6.IsWhole) (arg7 : Memref sig .tc .vmem S22x48 .f32) (harg7 : arg7.IsWhole) (arg8 : Memref sig .tc .vmem S22x48 .f32) (harg8 : arg8.IsWhole) (arg9 : Memref sig .tc .vmem S1x48 .f32) (harg9 : arg9.IsWhole) (arg10 : Memref sig .tc .vmem S1x256x48 .f32) (harg10 : arg10.IsWhole) :
    cc1__main_body (F := F) i arg2 harg2 arg3 harg3 arg4 harg4 arg5 harg5 arg6 harg6 arg7 harg7 arg8 harg8 arg9 harg9 arg10 harg10 = mainProg i arg2 harg2 arg3 harg3 arg4 harg4 arg5 harg5 arg6 harg6 arg7 harg7 arg8 harg8 arg9 harg9 arg10 harg10 := by
  simp only [cc1__main_body_eq_skeleton]; unfold cc1__main_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton]
  unfold k1_part1_skel k1_part2_skel k1_part3_skel k1_part4_skel k1_part5_skel k1_part6_skel k1_part7_skel k1_part8_skel k1_part9_skel k1_part10_skel k1_part11_skel k1_part12_skel k1_part13_skel k1_part14_skel k1_part15_skel k1_part16_skel
  simp only [ite_jp, ite_jp', loop1, loop2, loop3]
  simp only [bind_assoc, pure_bind]
  unfold mainProg
  rfl

set_option maxRecDepth 200000 in
set_option maxHeartbeats 4000000 in
/-- The main kernel on whole buffers: the inputs stay, the output is left at `mainOut` of them. -/
theorem main_triple (c : Dev nD) (E : Set ℕ) (i : grid1.Coords) (arg2 : Memref sig .tc .vmem S1x256x128 .f32) (harg2 : arg2.IsWhole) (arg3 : Memref sig .tc .vmem S1x27x4096 .f32) (harg3 : arg3.IsWhole) (arg4 : Memref sig .tc .vmem S1x4096x22 .f32) (harg4 : arg4.IsWhole) (arg5 : Memref sig .tc .vmem S1x256x4 .f32) (harg5 : arg5.IsWhole) (arg6 : Memref sig .tc .vmem S128x48 .f32) (harg6 : arg6.IsWhole) (arg7 : Memref sig .tc .vmem S22x48 .f32) (harg7 : arg7.IsWhole) (arg8 : Memref sig .tc .vmem S22x48 .f32) (harg8 : arg8.IsWhole) (arg9 : Memref sig .tc .vmem S1x48 .f32) (harg9 : arg9.IsWhole) (arg10 : Memref sig .tc .vmem S1x256x48 .f32) (harg10 : arg10.IsWhole)
    (x0 : Vec F S1x256x128 .f32) (x1 : Vec F S1x27x4096 .f32) (x2 : Vec F S1x4096x22 .f32) (x3 : Vec F S1x256x4 .f32) (x4 : Vec F S128x48 .f32) (x5 : Vec F S22x48 .f32) (x6 : Vec F S22x48 .f32) (x7 : Vec F S1x48 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (mainOut x0 x1 x2 x3 x4 x5 x6 x7)) -∗ K ⟨⟩))
      ⊢ wp frame (wpE (defs₀ (F := F)) Variants.none c none) E (cc1__main_body i arg2 harg2 arg3 harg3 arg4 harg4 arg5 harg5 arg6 harg6 arg7 harg7 arg8 harg8 arg9 harg9 arg10 harg10) K := by
  simp only [mainProg_eq]; unfold mainProg
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  refine (View.read_writes_eq_canon _ _ _ (mainCover _)).trans ?_
  unfold mainOut
  refine congrArg (fun p => View.canon [⟨_, p⟩]) ?_
  refine congr (congr (congr (congr (congr (congr (congr (congr (congr (congrArg blockOut ?_) ?_) ?_) ?_) ?_) ?_) ?_) ?_) ?_) ?_
  all_goals first | rfl | skip
  refine funext fun p => ?_
  fin_cases p <;> rfl

end Cert.KernelIdeal.Own

end
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Body
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x1024x128 := Rect.unit (s := S1x1024x128) ![0, 0, 0] S1x1024x128.size inb_S1x1024x128_S1x1024x128_0_0_0
abbrev r0_1 : Rect S128x26 := Rect.unit (s := S128x26) ![0, 0] S128x26.size inb_S128x26_S128x26_0_0
abbrev r0_2 : Rect S1x26 := Rect.unit (s := S1x26) ![0, 0] S1x26.size inb_S1x26_S1x26_0_0
abbrev r0_3 : Rect S1x1024x22 := Rect.unit (s := S1x1024x22) ![0, 0, 0] S1x1024x22.size inb_S1x1024x22_S1x1024x22_0_0_0
abbrev r0_4 : Rect S1x1024x4 := Rect.unit (s := S1x1024x4) ![0, 0, 0] S1x1024x4.size inb_S1x1024x4_S1x1024x4_0_0_0
abbrev r0_5 : Rect S26x1 := Rect.unit (s := S26x1) ![0, 0] S26x1.size inb_S26x1_S26x1_0_0
abbrev r0_6 : Rect S1x27x1024 := Rect.unit (s := S1x27x1024) ![0, 0, 0] S1x27x1024.size inb_S1x27x1024_S1x27x1024_0_0_0

def out0_4 (x0 : Vec F S1x1024x128 .f32) (x1 : Vec F S128x26 .f32) (x2 : Vec F S1x26 .f32) (x3 : Vec F S26x1 .f32) : Vec F S1x1024x22 .f32 :=
  View.canon [⟨r0_3, k0_pay4 (View.ld x0 r0_0) (View.ld x1 r0_1) (View.ld x2 r0_2)⟩]

theorem cover0_4 (p0 : Vec F S1x1024x22 .f32) (y : S1x1024x22.Idx) :
    ∃ pc ∈ ([⟨r0_3, p0⟩] : List (View.Piece (Elt F) S1x1024x22 .f32)), y ∈ pc.1.set :=
  View.cover_of_tiled [⟨r0_3, p0⟩] S1x1024x22.size (by rfl) y

def out0_5 (x0 : Vec F S1x1024x128 .f32) (x1 : Vec F S128x26 .f32) (x2 : Vec F S1x26 .f32) (x3 : Vec F S26x1 .f32) : Vec F S1x1024x4 .f32 :=
  View.canon [⟨r0_4, k0_pay5 (View.ld x0 r0_0) (View.ld x1 r0_1) (View.ld x2 r0_2)⟩]

theorem cover0_5 (p0 : Vec F S1x1024x4 .f32) (y : S1x1024x4.Idx) :
    ∃ pc ∈ ([⟨r0_4, p0⟩] : List (View.Piece (Elt F) S1x1024x4 .f32)), y ∈ pc.1.set :=
  View.cover_of_tiled [⟨r0_4, p0⟩] S1x1024x4.size (by rfl) y

def out0_6 (x0 : Vec F S1x1024x128 .f32) (x1 : Vec F S128x26 .f32) (x2 : Vec F S1x26 .f32) (x3 : Vec F S26x1 .f32) : Vec F S1x27x1024 .f32 :=
  View.canon [⟨r0_6, k0_pay6 (View.ld x0 r0_0) (View.ld x1 r0_1) (View.ld x3 r0_5)⟩]

theorem cover0_6 (p0 : Vec F S1x27x1024 .f32) (y : S1x27x1024.Idx) :
    ∃ pc ∈ ([⟨r0_6, p0⟩] : List (View.Piece (Elt F) S1x27x1024 .f32)), y ∈ pc.1.set :=
  View.cover_of_tiled [⟨r0_6, p0⟩] S1x27x1024.size (by rfl) y

set_option maxHeartbeats 1000000 in
theorem sound_kernel0 (c : Dev nD) (E : Set ℕ) (i : grid0.Coords) (arg2 : Memref sig .tc .vmem S1x1024x128 .f32) (harg2 : arg2.IsWhole) (arg3 : Memref sig .tc .vmem S128x26 .f32) (harg3 : arg3.IsWhole) (arg4 : Memref sig .tc .vmem S1x26 .f32) (harg4 : arg4.IsWhole) (arg5 : Memref sig .tc .vmem S26x1 .f32) (harg5 : arg5.IsWhole) (arg6 : Memref sig .tc .vmem S1x1024x22 .f32) (harg6 : arg6.IsWhole) (arg7 : Memref sig .tc .vmem S1x1024x4 .f32) (harg7 : arg7.IsWhole) (arg8 : Memref sig .tc .vmem S1x27x1024 .f32) (harg8 : arg8.IsWhole)
    (x0 : Vec F S1x1024x128 .f32) (x1 : Vec F S128x26 .f32) (x2 : Vec F S1x26 .f32) (x3 : Vec F S26x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3) ∗ owns (c : Thread nD τ) arg7 fullShare (out0_5 x0 x1 x2 x3) ∗ owns (c : Thread nD τ) arg8 fullShare (out0_6 x0 x1 x2 x3)) -∗ K ⟨⟩))
      ⊢ wp frame (wpE (defs₀ (F := F)) Variants.none c none) E (cc0__proj_body i arg2 harg2 arg3 harg3 arg4 harg4 arg5 harg5 arg6 harg6 arg7 harg7 arg8 harg8) K := by
  simp only [cc0__proj_body_eq_skeleton]; unfold cc0__proj_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => mainOut (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = mainOut (iblk1 V c 0 t) (iblk1 V c 1 t) (iblk1 V c 2 t) (iblk1 V c 3 t) (iblk1 V c 4 t) (iblk1 V c 5 t) (iblk1 V c 6 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (main_triple c Set.univ (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1, main_arg2, main_arg3, main_arg4, main_arg5, main_arg6]

theorem hostOps0_fresh : (hostOps0 : List (HloOp τ sig (Elt F))).Forall fun op => op.fresh = ∅ := by
  simp only [List.Forall]; repeat' constructor
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v5, main_v6, main_v7, main_v8]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem run_main : θ_run defs (onTc (τ := τ) (main (F := F))) ⟨m, fun _ => 0, ρ⟩ (fun r => (∀ c : Dev nD,
      r.2.mem ((c.tc : Thread nD τ).loc main_v9) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v9 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩), funext fun g => hz g (.inr (no_unscoped g.2))⟩)

end Cert.KernelIdeal.Own

end
-- ==== Proof.Frames.lean ====
module

public import proofs.«01_k».proof.Defs
public import proofs.«01_k».proof.Proof.Run
public import proofs.«01_k».proof.Proof.Gen.Kernel
public import proofs.«01_k».proof.Proof.Gen.KernelIdeal

/-! The frames of both kernels from the one run, and the constant that stands by name. -/

@[expose] public section

noncomputable section

namespace Cert.Proof

open Idealize.ShloMosaic Idealize.SL.Sem

/-- On words a named constant is its own word: the named program is then the unnamed one. -/
local instance wordNamed : Named Bits where
  named _ _ {φ} b := FloatOps.ofBits φ b

set_option maxRecDepth 100000

theorem frameIdeal : Cert.quiescent_KernelIdeal := fun m ρ _ =>
  (θ_run (Cert.KernelIdeal.defs (F := Ideal)) _ _).mono (fun _ h => ⟨fun c => (h.1 c).2, h.2⟩)
    (Cert.KernelIdeal.Own.run_main (F := Ideal) m ρ)

/-- The main kernel's code on words is one, named or not. -/
theorem code_same : Cert.Kernel.cc1__main_body (F := Bits) = Cert.KernelIdeal.cc1__main_body (F := Bits) := rfl

set_option maxHeartbeats 1000000 in
theorem table_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) =>
    refine Eq.trans (b := Cert.KernelIdeal.cc1__main_body (F := Bits) (Cert.KernelIdeal.grid1.coords t) _ _ _ _ _ _ _ _ _ _ _ _ _ _ _ _ _ _) ?_ rfl
    show Cert.Kernel.cc1__main_body (F := Bits) _ _ _ _ _ _ _ _ _ _ _ _ _ _ _ _ _ _ _ = _
    rw [code_same]; rfl
  | ⟨_ + 2, h⟩, _ => exact absurd h (Nat.not_lt.2 (Nat.le_add_left _ _))

theorem defs_same : Cert.Kernel.defs (F := Bits) = Cert.KernelIdeal.defs (F := Bits) :=
  congrArg (Pipeline.defs Cert.KernelIdeal.pcfgs) table_same

theorem main_same : Cert.Kernel.main (F := Bits) = Cert.KernelIdeal.main (F := Bits) := rfl

theorem frameKernel : Cert.quiescent_Kernel := fun m ρ _ => by
  rw [defs_same, main_same]
  have run := (θ_run (Cert.KernelIdeal.defs (F := Bits)) _ _).mono (fun _ h => And.intro (fun c => (h.1 c).2) h.2)
    (Cert.KernelIdeal.Own.run_main (F := Bits) m ρ)
  exact run

/-- The constant named `inv39` stands for one thirty-ninth. -/
theorem keeps : Cert.preserves_Kernel_KernelIdeal :=
  IdealRules.named_const.statement Cert.KernelIdeal.κ "inv39" .f32 0x3CD20D21#32 ((1 / 39 : ℝ) : EReal) rfl

end Cert.Proof

end
-- ==== Proof.Select.lean ====
module
public import Idealize.ShloMosaic.Lib.SortFacts
public import Mathlib.Data.Finset.Card
public import Mathlib.Data.Finset.Lattice.Fold
public import Mathlib.Algebra.BigOperators.Group.Finset.Basic
public import Mathlib.Data.Nat.Bitwise
public import Mathlib.Data.EReal.Basic

/-! Choosing the forty nearest of a row: the ranks, the two bisections, and the sorted list. -/

@[expose] public section

noncomputable section

namespace Cert.Choose

open Idealize.ShloMosaic

variable {α : Type} [LinearOrder α] {n : ℕ}

/-- `i` comes before `j`: nearer, or equally near and earlier. -/
def Ahead (d : Fin n → α) (i j : Fin n) : Prop := d i < d j ∨ (d i = d j ∧ i < j)

theorem Ahead.trans {d : Fin n → α} {i j k : Fin n} (h : Ahead d i j) (h' : Ahead d j k) : Ahead d i k := by
  rcases h with h | ⟨h, g⟩ <;> rcases h' with h' | ⟨h', g'⟩
  · exact .inl (h.trans h')
  · exact .inl (h' ▸ h)
  · exact .inl (h ▸ h')
  · exact .inr ⟨h.trans h', g.trans g'⟩

theorem Ahead.ne {d : Fin n → α} {i j : Fin n} (h : Ahead d i j) : i ≠ j := by
  rintro rfl
  rcases h with h | ⟨-, h⟩ <;> exact lt_irrefl _ h

theorem Ahead.total (d : Fin n → α) {i j : Fin n} (h : i ≠ j) : Ahead d i j ∨ Ahead d j i := by
  rcases lt_trichotomy (d i) (d j) with g | g | g
  · exact .inl (.inl g)
  · rcases lt_or_gt_of_ne h with k | k
    · exact .inl (.inr ⟨g, k⟩)
    · exact .inr (.inr ⟨g.symm, k⟩)
  · exact .inr (.inl g)

theorem Ahead.asymm {d : Fin n → α} {i j : Fin n} (h : Ahead d i j) (h' : Ahead d j i) : False :=
  (h.trans h').ne rfl

/-- A set that holds, with each position, every position ahead of it. -/
def Lower (d : Fin n → α) (S : Finset (Fin n)) : Prop := ∀ j ∈ S, ∀ i, Ahead d i j → i ∈ S

theorem Lower.eq {d : Fin n → α} {S T : Finset (Fin n)} (hS : Lower d S) (hT : Lower d T) (h : S.card = T.card) : S = T := by
  by_cases hst : S ⊆ T
  · exact Finset.eq_of_subset_of_card_le hst h.ge
  · obtain ⟨s, hs, hs'⟩ := Finset.not_subset.1 hst
    refine (Finset.eq_of_subset_of_card_le (fun t ht => ?_) h.le).symm
    have hne : s ≠ t := fun e => hs' (e ▸ ht)
    rcases Ahead.total d hne with g | g
    · exact absurd (hT t ht s g) hs'
    · exact hS s hs t g

/-! ### The stable sort lists the positions one ahead of the next -/

theorem ahead_insert (d : Fin n → α) (b : Fin n → Fin n → Bool) (hb : ∀ i j, b i j = true ↔ d i < d j) (a : Fin n)
    (l : List (Fin n)) (ha : ∀ x ∈ l, a < x) (hl : l.Pairwise (Ahead d)) : (insertBefore b a l).Pairwise (Ahead d) := by
  induction l with
  | nil => exact List.pairwise_singleton _ _
  | cons x l ih =>
    rw [List.pairwise_cons] at hl
    unfold insertBefore
    split
    · rename_i h
      refine List.pairwise_cons.2 ⟨fun c hc => ?_, ih (fun y hy => ha y (List.mem_cons_of_mem _ hy)) hl.2⟩
      rcases List.mem_cons.1 ((perm_insertBefore b a l).mem_iff.1 hc) with rfl | hc
      · exact .inl ((hb _ _).1 h)
      · exact hl.1 c hc
    · rename_i h
      have hax : Ahead d a x := by
        have hle : d a ≤ d x := not_lt.1 fun g => h ((hb _ _).2 g)
        rcases hle.lt_or_eq with g | g
        · exact .inl g
        · exact .inr ⟨g, ha x List.mem_cons_self⟩
      refine List.pairwise_cons.2 ⟨fun c hc => ?_, List.pairwise_cons.2 hl⟩
      rcases List.mem_cons.1 hc with rfl | hc
      · exact hax
      · exact hax.trans (hl.1 c hc)

theorem ahead_sort (d : Fin n → α) (b : Fin n → Fin n → Bool) (hb : ∀ i j, b i j = true ↔ d i < d j)
    (l : List (Fin n)) (hl : l.Pairwise (· < ·)) : (stableSort b l).Pairwise (Ahead d) := by
  induction l with
  | nil => exact List.Pairwise.nil
  | cons a l ih =>
    rw [List.pairwise_cons] at hl
    unfold stableSort
    exact ahead_insert d b hb a _ (fun x hx => hl.1 x ((perm_stableSort b l).mem_iff.1 hx)) (ih hl.2)

theorem ahead_sorted (d : Fin n → α) (b : Fin n → Fin n → Bool) (hb : ∀ i j, b i j = true ↔ d i < d j)
    (i j : Fin n) (hij : i < j) : Ahead d (sortedFrom b i) (sortedFrom b j) :=
  List.pairwise_iff_get.1 (ahead_sort d b hb (List.finRange n) (List.pairwise_lt_finRange n)) _ _ hij

/-- The first `k` positions of the sort. -/
def firsts (b : Fin n → Fin n → Bool) (k : ℕ) (hk : k ≤ n) : Finset (Fin n) :=
  Finset.univ.image fun i : Fin k => sortedFrom b (i.castLE hk)

theorem card_firsts (b : Fin n → Fin n → Bool) (k : ℕ) (hk : k ≤ n) : (firsts b k hk).card = k := by
  unfold firsts
  rw [Finset.card_image_of_injective, Finset.card_univ, Fintype.card_fin]
  intro x y h
  exact Fin.castLE_injective hk (sortedFrom_injective b h)

theorem lower_firsts (d : Fin n → α) (b : Fin n → Fin n → Bool) (hb : ∀ i j, b i j = true ↔ d i < d j)
    (k : ℕ) (hk : k ≤ n) : Lower d (firsts b k hk) := by
  intro j hj i hij
  obtain ⟨q, -, rfl⟩ := Finset.mem_image.1 hj
  obtain ⟨p, rfl⟩ := sortedFrom_surjective b i
  have hlt : p < q.castLE hk := by
    by_contra h
    rcases (not_lt.1 h).lt_or_eq with g | g
    · exact (ahead_sorted d b hb _ _ g).asymm hij
    · exact hij.ne (by rw [g])
  have : p.val < k := lt_trans hlt q.isLt
  exact Finset.mem_image.2 ⟨⟨p.val, this⟩, Finset.mem_univ _, rfl⟩

theorem sorted_zero (d : Fin n → α) (b : Fin n → Fin n → Bool) (hb : ∀ i j, b i j = true ↔ d i < d j)
    (z : Fin n) (hz : ∀ j, j ≠ z → Ahead d z j) (h : 0 < n) : sortedFrom b ⟨0, h⟩ = z := by
  by_contra hne
  obtain ⟨p, hp⟩ := sortedFrom_surjective b z
  have hp0 : (⟨0, h⟩ : Fin n) < p := by
    rcases Nat.eq_zero_or_pos p.val with e | e
    · exact absurd (by rw [← hp]; congr 1; exact Fin.ext e.symm) hne
    · exact e
  exact (hz _ hne).asymm (hp ▸ ahead_sorted d b hb _ _ hp0)

/-- A lower set of `k + 1` positions without its least one: the second to the last of the first `k + 1` of the sort. -/
theorem chosen_eq (d : Fin n → α) (b : Fin n → Fin n → Bool) (hb : ∀ i j, b i j = true ↔ d i < d j)
    (S : Finset (Fin n)) (hS : Lower d S) (k : ℕ) (hk : k + 1 ≤ n) (hc : S.card = k + 1)
    (z : Fin n) (hz : ∀ j, j ≠ z → Ahead d z j) (j : Fin n) :
    (j ∈ S ∧ j ≠ z) ↔ ∃ i : Fin k, sortedFrom b (i.succ.castLE hk) = j := by
  have hSf : S = firsts b (k + 1) hk := hS.eq (lower_firsts d b hb _ hk) (by rw [hc, card_firsts])
  have h0 := sorted_zero d b hb z hz (by omega)
  rw [hSf]
  constructor
  · rintro ⟨hj, hne⟩
    obtain ⟨q, -, rfl⟩ := Finset.mem_image.1 hj
    refine Fin.cases (fun hne => ?_) (fun i _ => ⟨i, rfl⟩) q hne
    exact absurd h0 hne
  · rintro ⟨i, rfl⟩
    refine ⟨Finset.mem_image.2 ⟨i.succ, Finset.mem_univ _, rfl⟩, fun e => ?_⟩
    have := congrArg Fin.val (sortedFrom_injective b (e.trans h0.symm))
    simp at this

/-! ### Bisection, bit by bit -/

/-- One step on the bit of weight `2 ^ k`: keep it unless `p` holds with it. -/
def bitStep (p : ℕ → Prop) [DecidablePred p] (t k : ℕ) : ℕ := if p (t ||| 2 ^ k) then t else t ||| 2 ^ k

theorem or_two_pow (a k : ℕ) : a * 2 ^ (k + 1) ||| 2 ^ k = a * 2 ^ (k + 1) + 2 ^ k := by
  have h := Nat.shiftLeft_add_eq_or_of_lt (b := 2 ^ k) (i := k + 1) (Nat.pow_lt_pow_right (by norm_num) (by omega)) a
  rw [Nat.shiftLeft_eq] at h
  exact h.symm

/-- What the bits decided so far say: the threshold lies between `t` and `t + 2 ^ k`. -/
structure Bracket (p : ℕ → Prop) (n k t : ℕ) : Prop where
  dvd : 2 ^ k ∣ t
  le : t + 2 ^ k ≤ 2 ^ n
  lo : ¬ p t
  hi : p (t + 2 ^ k) ∨ t + 2 ^ k = 2 ^ n

theorem Bracket.step {p : ℕ → Prop} [DecidablePred p] {n k t : ℕ} (h : Bracket p n (k + 1) t) :
    Bracket p n k (bitStep p t k) := by
  obtain ⟨a, rfl⟩ := h.dvd
  have hor : 2 ^ (k + 1) * a ||| 2 ^ k = 2 ^ (k + 1) * a + 2 ^ k := by rw [Nat.mul_comm]; exact or_two_pow a k
  have h2 : 2 ^ (k + 1) = 2 ^ k + 2 ^ k := by rw [pow_succ]; omega
  have hle := h.le
  have hpos : 0 < 2 ^ k := by positivity
  unfold bitStep
  rw [hor]
  split
  · rename_i hp
    exact ⟨(pow_dvd_pow 2 (Nat.le_succ k)).mul_right a, by omega, h.lo, .inl hp⟩
  · rename_i hp
    refine ⟨(Nat.dvd_add_left (dvd_refl _)).2 ((pow_dvd_pow 2 (Nat.le_succ k)).mul_right a), by omega, hp, ?_⟩
    have e : 2 ^ (k + 1) * a + 2 ^ k + 2 ^ k = 2 ^ (k + 1) * a + 2 ^ (k + 1) := by omega
    rw [e]
    exact h.hi

theorem Bracket.start {p : ℕ → Prop} {n : ℕ} (h : ¬ p 0) : Bracket p n n 0 :=
  ⟨dvd_zero _, by omega, h, .inr (by omega)⟩

/-! ### Ranks -/

/-- How many entries lie strictly below entry `j`. -/
def rank (d : Fin n → α) (j : Fin n) : ℕ := (Finset.univ.filter fun m => d m < d j).card

theorem rank_lt (d : Fin n → α) (j : Fin n) : rank d j < n := by
  have h : (Finset.univ.filter fun m => d m < d j) ⊂ (Finset.univ : Finset (Fin n)) :=
    Finset.filter_ssubset.2 ⟨j, Finset.mem_univ _, lt_irrefl _⟩
  have := Finset.card_lt_card h
  rwa [Finset.card_univ, Fintype.card_fin] at this

theorem rank_mono {d : Fin n → α} {i j : Fin n} (h : d i ≤ d j) : rank d i ≤ rank d j :=
  Finset.card_le_card fun m hm => Finset.mem_filter.2 ⟨Finset.mem_univ _, (Finset.mem_filter.1 hm).2.trans_le h⟩

theorem rank_lt_iff {d : Fin n → α} {i j : Fin n} : rank d i < rank d j ↔ d i < d j := by
  constructor
  · intro h
    by_contra hn
    exact absurd (rank_mono (d := d) (not_lt.1 hn)) (not_le.2 h)
  · intro h
    refine Finset.card_lt_card (Finset.ssubset_iff_subset_ne.2 ⟨fun m hm => Finset.mem_filter.2
      ⟨Finset.mem_univ _, (Finset.mem_filter.1 hm).2.trans h⟩, fun e => ?_⟩)
    have hi : i ∈ Finset.univ.filter fun m => d m < d j := Finset.mem_filter.2 ⟨Finset.mem_univ _, h⟩
    rw [← e] at hi
    exact lt_irrefl _ (Finset.mem_filter.1 hi).2

theorem rank_eq_iff {d : Fin n → α} {i j : Fin n} : rank d i = rank d j ↔ d i = d j := by
  constructor
  · intro h
    rcases lt_trichotomy (d i) (d j) with g | g | g
    · exact absurd (rank_lt_iff.2 g) (by omega)
    · exact g
    · exact absurd (rank_lt_iff.2 g) (by omega)
  · intro h; unfold rank; rw [h]

/-- How many ranks lie below `t`. -/
def below (r : Fin n → ℕ) (t : ℕ) : ℕ := (Finset.univ.filter fun j => r j < t).card

/-- How many ranks equal `K`. -/
def level (r : Fin n → ℕ) (K : ℕ) : ℕ := (Finset.univ.filter fun j => r j = K).card

/-- How many positions before `t` have the rank `K`. -/
def early (r : Fin n → ℕ) (K t : ℕ) : ℕ := (Finset.univ.filter fun j => r j = K ∧ j.val < t).card

theorem below_succ (r : Fin n → ℕ) (K : ℕ) : below r (K + 1) = below r K + level r K := by
  unfold below level
  rw [← Finset.card_union_of_disjoint]
  · congr 1
    ext j
    simp only [Finset.mem_filter, Finset.mem_univ, true_and, Finset.mem_union]
    omega
  · rw [Finset.disjoint_filter]
    intro j _ h; omega

theorem early_succ_le (r : Fin n → ℕ) (K t : ℕ) : early r K (t + 1) ≤ early r K t + 1 := by
  unfold early
  by_cases ht : t < n
  · refine (Finset.card_le_card (t := insert (⟨t, ht⟩ : Fin n) (Finset.univ.filter fun j => r j = K ∧ j.val < t)) ?_).trans
      (Finset.card_insert_le _ _)
    intro j hj
    obtain ⟨-, h1, h2⟩ := Finset.mem_filter.1 hj
    rcases Nat.lt_succ_iff_lt_or_eq.1 h2 with g | g
    · exact Finset.mem_insert_of_mem (Finset.mem_filter.2 ⟨Finset.mem_univ _, h1, g⟩)
    · exact Finset.mem_insert.2 (.inl (Fin.ext g))
  · refine (Finset.card_le_card ?_).trans (Nat.le_succ _)
    intro j hj
    obtain ⟨-, h1, h2⟩ := Finset.mem_filter.1 hj
    exact Finset.mem_filter.2 ⟨Finset.mem_univ _, h1, by have := j.isLt; omega⟩

theorem early_zero (r : Fin n → ℕ) (K : ℕ) : early r K 0 = 0 := by
  unfold early
  rw [Finset.card_eq_zero, Finset.filter_eq_empty_iff]
  intro j _ h; omega

theorem early_all (r : Fin n → ℕ) (K t : ℕ) (h : n ≤ t) : early r K t = level r K := by
  unfold early level
  congr 1
  ext j
  have := j.isLt
  simp only [Finset.mem_filter, Finset.mem_univ, true_and]
  exact ⟨fun h => h.1, fun h' => ⟨h', by omega⟩⟩

/-- The ranks below the threshold, and of its own level those at most at lane `T`. -/
def taken (r : Fin n → ℕ) (K T : ℕ) : Finset (Fin n) := Finset.univ.filter fun j => r j < K ∨ (r j = K ∧ j.val ≤ T)

theorem card_taken (r : Fin n → ℕ) (K T : ℕ) : (taken r K T).card = below r K + early r K (T + 1) := by
  unfold taken below early
  rw [← Finset.card_union_of_disjoint]
  · congr 1
    ext j
    simp only [Finset.mem_filter, Finset.mem_univ, true_and, Finset.mem_union, Nat.lt_succ_iff]
  · rw [Finset.disjoint_filter]
    intro j _ h; omega

theorem lower_taken (d : Fin n → α) (K T : ℕ) : Lower d (taken (rank d) K T) := by
  intro j hj i hij
  have hj := (Finset.mem_filter.1 hj).2
  refine Finset.mem_filter.2 ⟨Finset.mem_univ _, ?_⟩
  rcases hij with h | ⟨h, g⟩
  · have := rank_lt_iff.2 h
    left
    rcases hj with hj | hj <;> omega
  · have := rank_eq_iff.2 h
    have g' : i.val < j.val := g
    rw [this]
    rcases hj with hj | hj
    · exact .inl hj
    · exact .inr ⟨hj.1, by omega⟩

/-- The threshold the first bisection ends at. -/
theorem threshold {d : Fin n → α} {K b : ℕ} (hn : n < 2 ^ b) {k : ℕ} (hk : k ≤ n) (h : Bracket (fun t => k ≤ below (rank d) t) b 0 K) :
    below (rank d) K < k ∧ k ≤ below (rank d) (K + 1) := by
  refine ⟨not_le.1 h.lo, ?_⟩
  rcases h.hi with g | g
  · exact g
  · exfalso
    apply h.lo
    have e : below (rank d) K = n := by
      unfold below
      rw [Finset.filter_true_of_mem, Finset.card_univ, Fintype.card_fin]
      intro j _
      have := rank_lt d j
      rw [pow_zero] at g
      omega
    show k ≤ _
    rw [e]; exact hk

/-- The lane the second bisection ends at. -/
theorem lane_taken {r : Fin n → ℕ} {K T b need : ℕ} (hn : n ≤ 2 ^ b) (h1 : need ≤ level r K)
    (h : Bracket (fun t => need ≤ early r K t) b 0 T) : early r K (T + 1) = need := by
  have h2 : early r K T < need := not_le.1 h.lo
  have h3 := early_succ_le r K T
  rcases h.hi with g | g
  · have g : need ≤ early r K (T + 1) := g
    omega
  · rw [pow_zero] at g
    have e := early_all r K (T + 1) (by omega)
    omega

/-! ### The least position -/

theorem least_ahead (d : Fin n → α) (z : Fin n) (h1 : ∀ j, rank d z ≤ rank d j)
    (h2 : ∀ j, rank d j = rank d z → z ≤ j) (j : Fin n) (hj : j ≠ z) : Ahead d z j := by
  rcases (h1 j).lt_or_eq with g | g
  · exact .inl (rank_lt_iff.1 g)
  · exact .inr ⟨rank_eq_iff.1 g, lt_of_le_of_ne (h2 j g.symm) hj.symm⟩

end Cert.Choose

end
-- ==== Proof.Rows.lean ====
module
public import proofs.«01_k».proof.Proof.Body
public import proofs.«01_k».proof.Proof.Select
public import Idealize.ShloMosaic.Lib.Pointwise
public import Idealize.ShloMosaic.Lib.Pipeline.ValueKit
public import Idealize.ShloMosaic.Lib.IndicatorCount
@[expose] public section
set_option maxRecDepth 16384
noncomputable section
namespace Cert.KernelIdeal.Own
open Idealize.ShloMosaic Idealize.SL.Sem Cert.KernelIdeal Cert.KernelIdeal.Gen

open Cert.Choose

/-! The forty nearest of each row of a block, as the kernel's words say them. -/

/-! ### Literals -/

theorem lit_ninf : Ideal.ofBits .f32 0xFF800000#32 = (⊥ : EReal) := by simp [Ideal.ofBits, Ideal.ieee]
theorem lit_inf : Ideal.ofBits .f32 0x7F800000#32 = (⊤ : EReal) := by simp [Ideal.ofBits, Ideal.ieee]

theorem iv_eq (k : ℕ) : Scf.iv 0#32 1#32 k = BitVec.ofNat 32 k := by
  unfold Scf.iv; rw [BitVec.zero_add, BitVec.mul_one]

theorem sel_ite {α : Type} (p : Prop) [Decidable p] (a b : α) :
    Scalar.select (BitVec.ofBool (decide p)) a b = if p then a else b := by
  unfold Scalar.select
  by_cases h : p <;> simp [h]

theorem width_ite (p : Prop) [Decidable p] : (BitVec.ofBool (decide p)).setWidth 32 = if p then 1#32 else 0#32 := by
  by_cases h : p <;> simp [h]

/-! ### Loops -/

/-- A loop read at one place, when its step reads only that place. -/
theorem fold_at {n : ℕ} {ι β : Type} (g : Fin n → (ι → β) → (ι → β)) (init : ι → β) (i : ι) (h : Fin n → β → β)
    (hg : ∀ k acc, g k acc i = h k (acc i)) : Scf.fold g init i = (List.finRange n).foldl (fun a k => h k a) (init i) := by
  rw [Scf.fold_eq]
  generalize List.finRange n = l
  induction l generalizing init with
  | nil => rfl
  | cons k l ih => rw [List.foldl_cons, List.foldl_cons, ih, hg]

theorem foldl_finRange {n : ℕ} {β : Type} (h : ℕ → β → β) (a : β) :
    (List.finRange n).foldl (fun a (k : Fin n) => h k.val a) a = (List.range n).foldl (fun a k => h k a) a := by
  rw [show List.range n = (List.finRange n).map Fin.val from (List.map_coe_finRange_eq_range).symm, List.foldl_map]

theorem foldl_count {ι : Type} (p : ι → Prop) [DecidablePred p] (l : List ι) (c : ℕ) :
    l.foldl (fun (a : BitVec 32) k => a + if p k then 1#32 else 0#32) (BitVec.ofNat 32 c)
      = BitVec.ofNat 32 (c + l.countP (fun k => decide (p k))) := by
  induction l generalizing c with
  | nil => rfl
  | cons k l ih =>
    rw [List.foldl_cons, List.countP_cons]
    by_cases h : p k
    · rw [if_pos h, show BitVec.ofNat 32 c + 1#32 = BitVec.ofNat 32 (c + 1) from (BitVec.ofNat_add _ _).symm, ih]
      simp only [h, decide_true, if_true]
      congr 1; omega
    · rw [if_neg h, BitVec.add_zero, ih]
      simp only [h, decide_false, Bool.false_eq_true, if_false, Nat.add_zero]

theorem countP_finRange {n : ℕ} (p : Fin n → Prop) [DecidablePred p] :
    (List.finRange n).countP (fun k => decide (p k)) = (Finset.univ.filter p).card := by
  rw [List.countP_eq_length_filter]
  rfl

/-- A maximum from below everything that meets one value only is that value. -/
theorem fold_max_single {n : ℕ} (f : Fin n → EReal) (k : Fin n) :
    Finset.univ.fold max (⊥ : EReal) (fun x => if x = k then f x else ⊥) = f k := by
  apply le_antisymm
  · refine Finset.fold_max_le _ |>.2 ⟨bot_le, fun x _ => ?_⟩
    split
    · rename_i h; rw [h]
    · exact bot_le
  · exact (Finset.le_fold_max _).2 (.inr ⟨k, Finset.mem_univ _, by rw [if_pos rfl]⟩)

/-! ### The ranks -/

/-- The distances of row `q` of a block. -/
abbrev dist (a : Vec Ideal S1x4x4096 .f32) (b : Vec Ideal S1x1x4096 .f32) (c : Vec Ideal S1x256x4 .f32) (q : Fin 256) :
    Fin 4096 → EReal := fun m => k1_pay2 (F := Ideal) a b c (ix2 q m)

theorem pay4_at (a : Vec Ideal S1x4x4096 .f32) (b : Vec Ideal S1x1x4096 .f32) (c : Vec Ideal S1x256x4 .f32)
    (k : Fin 4096) (acc : IVec S256x4096 32) (q : Fin 256) (m : Fin 4096) :
    k1_pay4 (F := Ideal) a b c k acc (ix2 q m)
      = acc (ix2 q m) + if dist a b c q k < dist a b c q m then 1#32 else 0#32 := by
  pointwise [k1_pay4]
  rw [lit_ninf, iv_eq]
  have e : (fun x : Fin 4096 => Scalar.select (IntOp.cmpi CmpIPredicate.eq (BitVec.ofNat 32 x.val) (BitVec.ofNat 32 k.val))
      (k1_pay2 (F := Ideal) a b c (ix2 q x)) (⊥ : EReal)) = fun x => if x = k then dist a b c q x else ⊥ := by
    funext x
    rw [WordCmp.cmpi_eq_ofNat (lt_trans x.isLt (by norm_num)) (lt_trans k.isLt (by norm_num)), sel_ite]
    simp only [Fin.val_inj]
  erw [e]
  rw [fold_max_single (dist a b c q) k, width_ite]
  rfl

theorem keyOf_at (a : Vec Ideal S1x4x4096 .f32) (b : Vec Ideal S1x1x4096 .f32) (c : Vec Ideal S1x256x4 .f32)
    (q : Fin 256) (m : Fin 4096) :
    keyOf (F := Ideal) a b c (ix2 q m) = BitVec.ofNat 32 (rank (dist a b c q) m) := by
  unfold keyOf
  refine (fold_at (n := 4096) (k1_pay4 (F := Ideal) a b c) k1_pay3 (ix2 q m)
    (fun k v => v + if dist a b c q k < dist a b c q m then 1#32 else 0#32) (fun k acc => pay4_at a b c k acc q m)).trans ?_
  have h0 : k1_pay3 (ix2 q m) = BitVec.ofNat 32 0 := rfl
  rw [h0, foldl_count (fun k => dist a b c q k < dist a b c q m), countP_finRange, Nat.zero_add]
  rfl

/-! ### Words of counts and thresholds -/

theorem count_fold {n : ℕ} (P : Fin n → Prop) [DecidablePred P] :
    Finset.univ.fold IntOp.addi 0#32 (fun x : Fin n => (BitVec.ofBool (decide (P x))).setWidth 32)
      = BitVec.ofNat 32 (Finset.univ.filter P).card := by
  rw [IndicatorCount.fold_addi_setWidth_eq_card]
  simp only [WordCmp.ofBool_decide_eq_one_iff]

theorem card_lt {P : Fin 4096 → Prop} [DecidablePred P] : (Finset.univ.filter P).card < 2 ^ 31 :=
  (Finset.card_le_univ _).trans_lt (by rw [Fintype.card_fin]; norm_num)

theorem ori_word (a b : ℕ) : IntOp.ori (BitVec.ofNat 32 a) (BitVec.ofNat 32 b) = BitVec.ofNat 32 (a ||| b) :=
  (BitVec.ofNat_or).symm

/-- A bisection on words follows the one on numbers. -/
theorem words_bracket (n : ℕ) (hn : n ≤ 31) (p : ℕ → Prop) [DecidablePred p] (h0 : ¬ p 0) (h : ℕ → BitVec 32 → BitVec 32)
    (hh : ∀ i t, i < n → t < 2 ^ 31 → (t ||| 2 ^ (n - 1 - i)) < 2 ^ 31 →
      h i (BitVec.ofNat 32 t) = BitVec.ofNat 32 (bitStep p t (n - 1 - i))) (i : ℕ) (hi : i ≤ n) :
    ∃ T, Bracket p n (n - i) T ∧ (List.range i).foldl (fun a k => h k a) 0#32 = BitVec.ofNat 32 T := by
  induction i with
  | zero => exact ⟨0, Bracket.start h0, rfl⟩
  | succ i ih =>
    obtain ⟨T, hb, e⟩ := ih (by omega)
    have e1 : n - i = (n - 1 - i) + 1 := by omega
    have e2 : n - (i + 1) = n - 1 - i := by omega
    rw [e1] at hb
    have hle := hb.le
    have hp : 2 ^ n ≤ 2 ^ 31 := Nat.pow_le_pow_right (by norm_num) hn
    have hpos : 0 < 2 ^ (n - 1 - i) := by positivity
    have h2 : 2 ^ ((n - 1 - i) + 1) = 2 ^ (n - 1 - i) + 2 ^ (n - 1 - i) := by rw [pow_succ]; omega
    have hor : (T ||| 2 ^ (n - 1 - i)) < 2 ^ 31 := by
      obtain ⟨a, rfl⟩ := hb.dvd
      rw [Nat.mul_comm, or_two_pow, Nat.mul_comm]
      omega
    refine ⟨bitStep p T (n - 1 - i), e2 ▸ hb.step, ?_⟩
    rw [List.range_succ, List.foldl_append, List.foldl_cons, List.foldl_nil, e, hh i T (by omega) (by omega) hor]

theorem shl_30 : ∀ i : Fin 31, Scalar.shli 1#32 (Scalar.subi 30#32 (BitVec.ofNat 32 i.val)) = BitVec.ofNat 32 (2 ^ (31 - 1 - i.val)) := by
  decide
theorem shl_11 : ∀ i : Fin 12, Scalar.shli 1#32 (Scalar.subi 11#32 (BitVec.ofNat 32 i.val)) = BitVec.ofNat 32 (2 ^ (12 - 1 - i.val)) := by
  decide

/-- A block's keys, row by row, are the words of ranks. -/
def Ranks (key : IVec S256x4096 32) (r : Fin 256 → Fin 4096 → ℕ) : Prop :=
  ∀ q m, key (ix2 q m) = BitVec.ofNat 32 (r q m) ∧ r q m < 4096

variable {key : IVec S256x4096 32} {r : Fin 256 → Fin 4096 → ℕ}

theorem lt_31 {a : ℕ} (h : a < 4096) : a < 2 ^ (32 - 1) := lt_trans h (by norm_num)

/-- The step of the first bisection at one row. -/
def keyStep (r : Fin 4096 → ℕ) (i : ℕ) (a : BitVec 32) : BitVec 32 := Scalar.select
  (IntOp.cmpi .sge (Finset.univ.fold IntOp.addi 0#32 fun x : Fin 4096 => (IntOp.cmpi .slt (BitVec.ofNat 32 (r x))
    (IntOp.ori a (Scalar.shli 1#32 (Scalar.subi 30#32 (BitVec.ofNat 32 i))))).setWidth 32) 40#32)
  a (IntOp.ori a (Scalar.shli 1#32 (Scalar.subi 30#32 (BitVec.ofNat 32 i))))

theorem pay6_at (hk : Ranks key r) (q : Fin 256) (i : Fin 31) (acc : IVec S256x1 32) :
    k1_pay6 key i acc (ix2 q 0) = keyStep (r q) i.val (acc (ix2 q 0)) := by
  pointwise [k1_pay6]
  rw [iv_eq]
  simp only [(hk _ _).1]
  rfl

theorem kth_at (hk : Ranks key r) (q : Fin 256) :
    ∃ K, Bracket (fun t => 40 ≤ below (r q) t) 31 0 K ∧ kthOf key (ix2 q 0) = BitVec.ofNat 32 K := by
  obtain ⟨T, hb, e⟩ := words_bracket 31 le_rfl (fun t => 40 ≤ below (r q) t) (by simp [below])
    (keyStep (r q))
    (fun i t hi ht hor => by
      have es := shl_30 ⟨i, hi⟩
      dsimp only at es ⊢
      rw [keyStep, es, ori_word]
      have ec : (fun x : Fin 4096 => (IntOp.cmpi .slt (BitVec.ofNat 32 (r q x)) (BitVec.ofNat 32 (t ||| 2 ^ (31 - 1 - i)))).setWidth 32)
          = fun x : Fin 4096 => (BitVec.ofBool (decide (r q x < (t ||| 2 ^ (31 - 1 - i))))).setWidth 32 := by
        funext x
        rw [WordCmp.cmpi_slt_ofNat (lt_31 (hk q x).2) hor]
      rw [ec, count_fold, WordCmp.cmpi_sge_ofNat card_lt (by norm_num), sel_ite, bitStep]
      exact (apply_ite (BitVec.ofNat 32) _ _ _).symm) 31 le_rfl
  refine ⟨T, hb, ?_⟩
  rw [← e]
  unfold kthOf
  refine (fold_at (n := 31) (k1_pay6 key) k1_pay5 (ix2 q 0) (fun k a => keyStep (r q) k.val a) (fun k acc => pay6_at hk q k acc)).trans ?_
  exact foldl_finRange (keyStep (r q)) _

/-! ### The ties -/

/-- A row's threshold: fewer than forty below it, at least forty up to it. -/
structure Thr (key : IVec S256x4096 32) (r : Fin 256 → Fin 4096 → ℕ) (q : Fin 256) (K : ℕ) : Prop where
  word : kthOf key (ix2 q 0) = BitVec.ofNat 32 K
  lt : K < 2 ^ 31
  lo : below (r q) K < 40
  hi : 40 ≤ below (r q) K + level (r q) K

/-- The thresholds of every row, when the keys are ranks of distances. -/
theorem thr_exists (d : Fin 256 → Fin 4096 → EReal) (hk : Ranks key fun q => rank (d q)) :
    ∃ K : Fin 256 → ℕ, ∀ q, Thr key (fun q => rank (d q)) q (K q) := by
  refine Classical.skolem.1 fun q => ?_
  obtain ⟨K, hb, e⟩ := kth_at hk q
  have h := threshold (n := 4096) (by norm_num) (by norm_num) hb
  have hle := hb.le
  exact ⟨K, e, by omega, h.1, by rw [← below_succ]; exact h.2⟩

variable {K : Fin 256 → ℕ}

theorem lt_at (hk : Ranks key r) (ht : ∀ q, Thr key r q (K q)) (q : Fin 256) (m : Fin 4096) :
    k1_pay7 key (kthOf key) (ix2 q m) = BitVec.ofBool (decide (r q m < K q)) := by
  pointwise [k1_pay7]
  rw [(hk q m).1, (ht q).word, WordCmp.cmpi_slt_ofNat (lt_31 (hk q m).2) (ht q).lt]

theorem tie_at (hk : Ranks key r) (ht : ∀ q, Thr key r q (K q)) (q : Fin 256) (m : Fin 4096) :
    k1_pay8 key (kthOf key) (ix2 q m) = BitVec.ofBool (decide (r q m = K q)) := by
  pointwise [k1_pay8]
  rw [(hk q m).1, (ht q).word, WordCmp.cmpi_eq_ofNat (lt_trans (hk q m).2 (by norm_num)) (lt_trans (ht q).lt (by norm_num))]

theorem need_at (hk : Ranks key r) (ht : ∀ q, Thr key r q (K q)) (q : Fin 256) :
    k1_pay9 key (kthOf key) (ix2 q 0) = BitVec.ofNat 32 (40 - below (r q) (K q)) := by
  pointwise [k1_pay9]
  have e : (fun x : Fin 4096 => BitVec.setWidth 32 (k1_pay7 key (kthOf key) (ix2 q x)))
      = fun x => (BitVec.ofBool (decide (r q x < K q))).setWidth 32 := by
    funext x; rw [lt_at hk ht]
  rw [e, count_fold]
  exact BitVec.ofNat_sub_ofNat_of_le _ _ (lt_trans (ht q).lo (by norm_num)) (ht q).lo.le

theorem flag_iff (x : EReal) : flag (F := Ideal) (x : Ideal .f32) ↔ 0 < x := by
  unfold flag
  have h0 : (Scalar.ofBits .f32 0x00000000#32 : Ideal .f32) = (0 : EReal) := Ideal.ofBits_zero_f32
  rw [h0]
  show Scalar.cmpi .ne (Scalar.extui (BitVec.ofBool (decide ((0 : EReal) < x))) : BitVec 32) 0#32 = 1#1 ↔ _
  by_cases h : (0 : EReal) < x <;> simp only [h, decide_true, decide_false] <;> decide

/-- When the flag of the ties is up, every row needs all of its ties. -/
theorem flag_ties (tie : IVec S256x4096 1) (need : IVec S256x1 32) (h : flag (k1_pay10 (F := Ideal) tie need)) (q : Fin 256) :
    need (ix2 q 0) = Finset.univ.fold IntOp.addi 0#32 fun x : Fin 4096 => BitVec.setWidth 32 (tie (ix2 q x)) := by
  have h := (flag_iff _).1 h
  revert h
  pointwise [k1_pay10]
  intro h
  have h := ((Finset.lt_fold_min _).1 h).2 (q, 0) (Finset.mem_univ _)
  rw [WordCmp.cmpi_eq_eq, sel_ite] at h
  by_contra hne
  rw [if_neg hne] at h
  exact lt_irrefl _ h

/-- The step of the second bisection at one row. -/
def laneStep (r : Fin 4096 → ℕ) (K need : ℕ) (i : ℕ) (a : BitVec 32) : BitVec 32 := Scalar.select
  (IntOp.cmpi .sge (Finset.univ.fold IntOp.addi 0#32 fun x : Fin 4096 => (IntOp.andi (BitVec.ofBool (decide (r x = K)))
    (IntOp.cmpi .slt (BitVec.ofNat 32 x.val)
    (IntOp.ori a (Scalar.shli 1#32 (Scalar.subi 11#32 (BitVec.ofNat 32 i)))))).setWidth 32) (BitVec.ofNat 32 need))
  a (IntOp.ori a (Scalar.shli 1#32 (Scalar.subi 11#32 (BitVec.ofNat 32 i))))

theorem pay13_at (hk : Ranks key r) (ht : ∀ q, Thr key r q (K q)) (q : Fin 256) (i : Fin 12) (acc : IVec S256x1 32) :
    k1_pay13 (k1_pay8 key (kthOf key)) (k1_pay9 key (kthOf key)) lanes i acc (ix2 q 0)
      = laneStep (r q) (K q) (40 - below (r q) (K q)) i.val (acc (ix2 q 0)) := by
  pointwise [k1_pay13, lanes]
  rw [iv_eq, need_at hk ht]
  simp only [tie_at hk ht]
  rfl

/-- The last lane taken among the ties of a row. -/
theorem last_at (hk : Ranks key r) (ht : ∀ q, Thr key r q (K q)) (q : Fin 256) :
    ∃ T, T ≤ 4096 ∧ early (r q) (K q) (T + 1) = 40 - below (r q) (K q) ∧ tselOf (F := Ideal) key (ix2 q 0) = BitVec.ofNat 32 T := by
  have hlo := (ht q).lo
  have hhi := (ht q).hi
  unfold tselOf lastTie
  by_cases hf : flag (k1_pay10 (F := Ideal) (k1_pay8 key (kthOf key)) (k1_pay9 key (kthOf key)))
  · rw [if_pos hf]
    refine ⟨4096, le_rfl, ?_, rfl⟩
    have h := flag_ties _ _ hf q
    rw [need_at hk ht] at h
    simp only [tie_at hk ht] at h
    rw [count_fold, WordCmp.ofNat_eq_ofNat_iff (by omega) (lt_trans card_lt (by norm_num))] at h
    rw [early_all _ _ _ (by norm_num), h]
    rfl
  · rw [if_neg hf]
    obtain ⟨T, hb, e⟩ := words_bracket 12 (by norm_num) (fun t => 40 - below (r q) (K q) ≤ early (r q) (K q) t)
      (by rw [early_zero]; omega) (laneStep (r q) (K q) (40 - below (r q) (K q)))
      (fun i t hi ht hor => by
        have es := shl_11 ⟨i, hi⟩
        dsimp only at es ⊢
        rw [laneStep, es, ori_word]
        have ec : (fun x : Fin 4096 => (IntOp.andi (BitVec.ofBool (decide (r q x = K q)))
              (IntOp.cmpi .slt (BitVec.ofNat 32 x.val) (BitVec.ofNat 32 (t ||| 2 ^ (12 - 1 - i))))).setWidth 32)
            = fun x : Fin 4096 => (BitVec.ofBool (decide (r q x = K q ∧ x.val < (t ||| 2 ^ (12 - 1 - i))))).setWidth 32 := by
          funext x
          rw [WordCmp.cmpi_slt_ofNat (lt_31 x.isLt) hor, WordCmp.andi_ofBool, Bool.decide_and]
        rw [ec, count_fold, WordCmp.cmpi_sge_ofNat card_lt (by omega), sel_ite, bitStep]
        exact (apply_ite (BitVec.ofNat 32) _ _ _).symm) 12 le_rfl
    have hle := hb.le
    have hpos : 0 < 2 ^ (12 - 12) := by positivity
    refine ⟨T, by omega, lane_taken (n := 4096) (by norm_num) (by omega) hb, ?_⟩
    rw [← e]
    refine (fold_at (n := 12) (k1_pay13 (k1_pay8 key (kthOf key)) (k1_pay9 key (kthOf key)) lanes) k1_pay12 (ix2 q 0)
      (fun k a => laneStep (r q) (K q) (40 - below (r q) (K q)) k.val a) (fun k acc => pay13_at hk ht q k acc)).trans ?_
    exact foldl_finRange (laneStep (r q) (K q) (40 - below (r q) (K q))) _

/-! ### The least position and the selection -/

theorem minsi_word {a b : ℕ} (ha : a < 2 ^ 31) (hb : b < 2 ^ 31) :
    IntOp.minsi (BitVec.ofNat 32 a) (BitVec.ofNat 32 b) = BitVec.ofNat 32 (min a b) := by
  have h := WordCmp.cmpi_slt_ofNat (w := 32) ha hb
  have h' : (BitVec.ofNat 32 a).slt (BitVec.ofNat 32 b) = decide (a < b) := by
    have h : BitVec.ofBool ((BitVec.ofNat 32 a).slt (BitVec.ofNat 32 b)) = _ := h
    revert h
    cases (BitVec.ofNat 32 a).slt (BitVec.ofNat 32 b) <;> cases decide (a < b) <;> decide
  unfold IntOp.minsi
  rw [h']
  by_cases hab : a < b
  · simp only [hab, decide_true, if_true, min_eq_left hab.le]
  · simp only [hab, decide_false, Bool.false_eq_true, if_false, min_eq_right (not_lt.1 hab)]

theorem minsi_fold {ι : Type} (S : Finset ι) (f : ι → ℕ) (hf : ∀ x, f x < 2 ^ 31) :
    S.fold IntOp.minsi 2147483647#32 (fun x => BitVec.ofNat 32 (f x)) = BitVec.ofNat 32 (S.fold min 2147483647 f)
      ∧ S.fold min 2147483647 f < 2 ^ 31 := by
  classical
  induction S using Finset.induction_on with
  | empty => exact ⟨rfl, by norm_num⟩
  | insert a S ha ih =>
    rw [Finset.fold_insert ha, Finset.fold_insert ha, ih.1, minsi_word (hf a) ih.2]
    exact ⟨rfl, lt_of_le_of_lt (min_le_left _ _) (hf a)⟩

theorem fold_min_eq {ι : Type} [Fintype ι] (f : ι → ℕ) (z : ι) (hz : ∀ x, f z ≤ f x) (hb : f z ≤ 2147483647) :
    Finset.univ.fold min 2147483647 f = f z :=
  le_antisymm ((Finset.fold_min_le _).2 (.inr ⟨z, Finset.mem_univ _, le_rfl⟩)) ((Finset.le_fold_min _).2 ⟨hb, fun x _ => hz x⟩)

/-- The position the kernel leaves out: the earliest of the least keys. -/
theorem least_at (hk : Ranks key r) (q : Fin 256) :
    ∃ z : Fin 4096, (∀ j, r q z ≤ r q j) ∧ (∀ j, r q j = r q z → z ≤ j)
      ∧ (Finset.univ.fold IntOp.minsi 2147483647#32 fun x : Fin 4096 => Scalar.select
          (IntOp.cmpi .eq (key (ix2 q x)) (Finset.univ.fold IntOp.minsi 2147483647#32 fun x : Fin 4096 => key (ix2 q x)))
          (BitVec.ofNat 32 x.val) 4096#32) = BitVec.ofNat 32 z.val := by
  obtain ⟨y, -, hy⟩ := Finset.exists_min_image (Finset.univ : Finset (Fin 4096)) (r q) ⟨0, Finset.mem_univ _⟩
  obtain ⟨z, hz, hz'⟩ := Finset.exists_min_image (Finset.univ.filter fun x : Fin 4096 => r q x = r q y) id
    ⟨y, Finset.mem_filter.2 ⟨Finset.mem_univ _, rfl⟩⟩
  have hzy := (Finset.mem_filter.1 hz).2
  refine ⟨z, fun j => hzy ▸ hy j (Finset.mem_univ _), fun j hj =>
    hz' j (Finset.mem_filter.2 ⟨Finset.mem_univ _, hj.trans hzy⟩), ?_⟩
  have hlt : ∀ x, r q x < 2 ^ 31 := fun x => lt_31 (hk q x).2
  have e1 : (Finset.univ.fold IntOp.minsi 2147483647#32 fun x : Fin 4096 => key (ix2 q x)) = BitVec.ofNat 32 (r q y) := by
    have e : (fun x : Fin 4096 => key (ix2 q x)) = fun x => BitVec.ofNat 32 (r q x) := funext fun x => (hk q x).1
    rw [e, (minsi_fold _ _ hlt).1, fold_min_eq _ y (fun x => hy x (Finset.mem_univ _)) (by have := hlt y; omega)]
  rw [e1]
  have e2 : (fun x : Fin 4096 => Scalar.select (IntOp.cmpi .eq (key (ix2 q x)) (BitVec.ofNat 32 (r q y)))
      (BitVec.ofNat 32 x.val) 4096#32) = fun x => BitVec.ofNat 32 (if r q x = r q y then x.val else 4096) := by
    funext x
    rw [(hk q x).1, WordCmp.cmpi_eq_ofNat (lt_trans (hlt x) (by norm_num)) (lt_trans (hlt y) (by norm_num)), sel_ite]
    exact (apply_ite (BitVec.ofNat 32) _ _ _).symm
  rw [e2, (minsi_fold _ _ fun x => by have := x.isLt; split <;> omega).1, fold_min_eq _ z]
  · rw [if_pos hzy]
  · intro x
    rw [if_pos hzy]
    split
    · rename_i h; exact hz' x (Finset.mem_filter.2 ⟨Finset.mem_univ _, h⟩)
    · exact z.isLt.le
  · rw [if_pos hzy]; have := z.isLt; omega

/-- What a row selects: a lower set of forty without its least position. -/
theorem sel_at (d : Fin 256 → Fin 4096 → EReal) (hk : Ranks key fun q => rank (d q)) (q : Fin 256) :
    ∃ (S : Finset (Fin 4096)) (z : Fin 4096), Lower (d q) S ∧ S.card = 40 ∧ (∀ j, j ≠ z → Ahead (d q) z j)
      ∧ ∀ m, selOf (F := Ideal) key (ix2 q m) = BitVec.ofBool (decide (m ∈ S ∧ m ≠ z)) := by
  obtain ⟨K, ht⟩ := thr_exists d hk
  obtain ⟨T, hT, hn, e⟩ := last_at hk ht q
  obtain ⟨z, hz1, hz2, ez⟩ := least_at hk q
  have hlo := (ht q).lo
  refine ⟨taken (rank (d q)) (K q) T, z, lower_taken (d q) _ _, by rw [card_taken, hn]; omega,
    least_ahead (d q) z hz1 hz2, fun m => ?_⟩
  unfold selOf
  pointwise [k1_pay14, lanes]
  erw [ez]
  rw [lt_at hk ht, tie_at hk ht, e, WordCmp.cmpi_sle_ofNat (lt_31 m.isLt) (by omega),
    WordCmp.cmpi_ne_ofNat (lt_trans m.isLt (by norm_num)) (lt_trans z.isLt (by norm_num)),
    WordCmp.andi_ofBool, WordCmp.ori_ofBool, WordCmp.andi_ofBool]
  refine congrArg BitVec.ofBool (Bool.eq_iff_iff.2 ?_)
  rw [Bool.and_eq_true, Bool.or_eq_true, Bool.and_eq_true, decide_eq_true_iff, decide_eq_true_iff, decide_eq_true_iff,
    decide_eq_true_iff, decide_eq_true_iff, taken, Finset.mem_filter, ne_eq, ne_eq, Fin.ext_iff]
  exact ⟨fun h => ⟨⟨Finset.mem_univ _, h.1⟩, h.2⟩, fun h => ⟨h.1.2, h.2⟩⟩

theorem forty_le : 39 + 1 ≤ 4096 := by norm_num

/-- The second to the fortieth position of the stable sort. -/
def nearest (b : Fin 4096 → Fin 4096 → Bool) : Finset (Fin 4096) :=
  Finset.univ.image fun i : Fin 39 => sortedFrom b (i.succ.castLE forty_le)

theorem mem_nearest (b : Fin 4096 → Fin 4096 → Bool) (m : Fin 4096) :
    m ∈ nearest b ↔ ∃ i : Fin 39, sortedFrom b (i.succ.castLE forty_le) = m := by
  unfold nearest
  rw [Finset.mem_image]
  exact ⟨fun ⟨i, _, h⟩ => ⟨i, h⟩, fun ⟨i, h⟩ => ⟨i, Finset.mem_univ _, h⟩⟩

/-- The selection of a row is the second to the fortieth position of the stable sort by distance. -/
theorem sel_iff (d : Fin 256 → Fin 4096 → EReal) (hk : Ranks key fun q => rank (d q)) (q : Fin 256)
    (b : Fin 4096 → Fin 4096 → Bool) (hb : ∀ i j, b i j = true ↔ d q i < d q j) (m : Fin 4096) :
    selOf (F := Ideal) key (ix2 q m) = 1#1 ↔ m ∈ nearest b := by
  obtain ⟨S, z, hS, hc, hz, e⟩ := sel_at d hk q
  rw [e, WordCmp.ofBool_decide_eq_one_iff, mem_nearest]
  exact chosen_eq (d q) b hb S hS 39 forty_le hc z hz m

end Cert.KernelIdeal.Own
end
-- ==== Proof.Block.lean ====
module
public import proofs.«01_k».proof.Proof.Rows
public import Idealize.ShloMosaic.Lib.Pointwise
public import Idealize.ShloMosaic.Lib.Pipeline.ValueKit
public import Idealize.ShloMosaic.Lib.IndicatorCount
@[expose] public section
set_option maxRecDepth 16384
noncomputable section
namespace Cert.KernelIdeal.Own
open Idealize.ShloMosaic Idealize.SL.Sem Cert.KernelIdeal Cert.KernelIdeal.Gen

open Cert.Choose

/-! What a block of the main kernel holds, element by element, over the extended reals. -/

/-! ### Exponentials -/

theorem exp_nonneg (x : EReal) : 0 ≤ Ideal.exp x := by
  induction x with
  | bot => exact le_rfl
  | top => exact le_top
  | coe r => rw [Ideal.exp_coe]; exact EReal.coe_nonneg.2 (Real.exp_pos r).le

theorem exp_mono {x y : EReal} (h : x ≤ y) : Ideal.exp x ≤ Ideal.exp y := by
  induction x with
  | bot => exact exp_nonneg y
  | top => rw [top_le_iff.1 h]
  | coe r =>
    induction y with
    | bot => exact absurd (le_bot_iff.1 h) (EReal.coe_ne_bot r)
    | top => exact le_top
    | coe s =>
      rw [Ideal.exp_coe, Ideal.exp_coe]
      exact EReal.coe_le_coe_iff.2 (Real.exp_le_exp.2 (EReal.coe_le_coe_iff.1 h))

/-- The product in the logarithm's domain. -/
theorem exp_add_log {l x : EReal} (hl : l ≤ 0) (hx : 0 < x) : Ideal.exp (l + Ideal.log x) = Ideal.exp l * x := by
  induction l with
  | bot => rw [EReal.bot_add, Ideal.exp_bot, zero_mul]
  | top => exact absurd (top_le_iff.1 hl) (by decide)
  | coe r =>
    induction x with
    | bot => exact absurd hx (by simp)
    | top =>
      rw [Ideal.log_top, EReal.coe_add_top, Ideal.exp_top, Ideal.exp_coe, EReal.coe_mul_top_of_pos (Real.exp_pos r)]
    | coe y =>
      have hy : 0 < y := EReal.coe_pos.1 hx
      rw [Ideal.log_coe, if_neg (not_le.2 hy), ← EReal.coe_add, Ideal.exp_coe, Ideal.exp_coe, Real.exp_add, Real.exp_log hy,
        EReal.coe_mul]

theorem sub_sq_nonpos (y : EReal) : 0 - y * y ≤ 0 := by
  have h : 0 ≤ y * y := by
    rcases le_total 0 y with h | h
    · exact mul_nonneg h h
    · have := mul_nonneg (EReal.neg_nonneg.2 h) (EReal.neg_nonneg.2 h)
      rwa [neg_mul_neg] at this
  rw [zero_sub]
  exact EReal.neg_le_neg_iff.1 (by rwa [neg_neg, neg_zero])

/-! ### The greatest weighted feature -/

theorem select_pos {α : Type} {c : BitVec 1} (h : c = 1#1) (a b : α) : Scalar.select c a b = a := if_pos h

theorem select_neg {α : Type} {c : BitVec 1} (h : ¬c = 1#1) (a b : α) : Scalar.select c a b = b := if_neg h

section Greatest

variable {sel : IVec S256x4096 1} {L w : FVec Ideal S256x4096 .f32} {row : Vec Ideal S1x1x4096 .f32}

/-- One lane's term in the logarithm's domain. -/
def logTerm (sel : IVec S256x4096 1) (L : FVec Ideal S256x4096 .f32) (row : Vec Ideal S1x1x4096 .f32) (q : Fin 256) (m : Fin 4096) : EReal :=
  Scalar.select (sel (ix2 q m)) (L (ix2 q m) : EReal) ⊥
    + if (0 : EReal) < row (ix3 0 0 m) then Ideal.log (row (ix3 0 0 m)) else ⊥

/-- The logarithm of a row of features, below every real where the feature is not positive. -/
def rowLog (row : Vec Ideal S1x1x4096 .f32) : FVec Ideal S1x4096 .f32 :=
  select (cmpf .ogt (k1_pay19 row) (broadcast S1x4096 (Scalar.ofBits .f32 0x00000000#32 : Ideal .f32))) (log (k1_pay19 row))
    (broadcast S1x4096 (Scalar.ofBits .f32 0xFF800000#32 : Ideal .f32))

theorem rowLog_at (row : Vec Ideal S1x1x4096 .f32) (m : Fin 4096) :
    rowLog row (ix2 0 m) = if (0 : EReal) < row (ix3 0 0 m) then Ideal.log (row (ix3 0 0 m)) else ⊥ := by
  have hr : k1_pay19 (F := Ideal) row (ix2 0 m) = row (ix3 0 0 m) := by pointwise [k1_pay19]
  have h0 : (Scalar.ofBits .f32 0x00000000#32 : Ideal .f32) = (0 : EReal) := Ideal.ofBits_zero_f32
  have h1 : (Scalar.ofBits .f32 0xFF800000#32 : Ideal .f32) = (⊥ : EReal) := lit_ninf
  show Scalar.select (Scalar.cmpf .ogt (k1_pay19 (F := Ideal) row (ix2 0 m)) (Scalar.ofBits .f32 0x00000000#32 : Ideal .f32))
    (Ideal.log (k1_pay19 (F := Ideal) row (ix2 0 m))) (Scalar.ofBits .f32 0xFF800000#32 : Ideal .f32) = _
  rw [h0, h1, hr]
  show Scalar.select (BitVec.ofBool (decide ((0 : EReal) < row (ix3 0 0 m)))) _ _ = _
  exact sel_ite _ _ _

theorem pay20_at (q : Fin 256) :
    k1_pay20 (F := Ideal) sel L row (ix2 q 0) = Finset.univ.fold max ⊥ (logTerm sel L row q) := by
  have h : ∀ M : FVec Ideal S1x4096 .f32, shapeCast S256x1 (multiReduction .maximumf [1] S256
      (addf (k1_pay18 sel L) (broadcastTo S256x4096 M broadcasts_S1x4096_S256x4096)) 0xFF800000#32 reduces_S256x4096_S256
        (.inl rfl) rfl) shapeCasts_S256_S256x1 (ix2 q 0)
      = Finset.univ.fold max (⊥ : EReal) fun m => Scalar.select (sel (ix2 q m)) (L (ix2 q m) : EReal) ⊥ + M (ix2 0 m) := by
    intro M
    pointwise [k1_pay18]
    rw [lit_ninf]
  refine (h (rowLog row)).trans (congrArg (fun f => Finset.fold max (⊥ : EReal) f Finset.univ) (funext fun m => ?_))
  rw [rowLog_at, logTerm]

/-- Marks the rows whose greatest term is below every real. -/
def emptyRow (g : FVec Ideal S256x1 .f32) : FVec Ideal S256x1 .f32 :=
  select (cmpf .oeq g (broadcast S256x1 (Scalar.ofBits .f32 0xFF800000#32 : Ideal .f32)))
    (broadcast S256x1 (Scalar.ofBits .f32 0x3F800000#32 : Ideal .f32)) (broadcast S256x1 (Scalar.ofBits .f32 0x00000000#32 : Ideal .f32))

theorem emptyRow_at (g : FVec Ideal S256x1 .f32) (q : Fin 256) (h : g (ix2 q 0) = (⊥ : EReal)) : emptyRow g (ix2 q 0) = (1 : EReal) := by
  have h1 : (Scalar.ofBits .f32 0xFF800000#32 : Ideal .f32) = (⊥ : EReal) := lit_ninf
  have h2 : (Scalar.ofBits .f32 0x3F800000#32 : Ideal .f32) = (1 : EReal) := Ideal.ofBits_one_f32
  show Scalar.select (Scalar.cmpf .oeq (g (ix2 q 0)) (Scalar.ofBits .f32 0xFF800000#32 : Ideal .f32))
    (Scalar.ofBits .f32 0x3F800000#32 : Ideal .f32) (Scalar.ofBits .f32 0x00000000#32 : Ideal .f32) = _
  rw [h1, h2, h]
  show Scalar.select (BitVec.ofBool (decide ((⊥ : EReal) = ⊥))) _ _ = _
  rw [decide_eq_true rfl]
  rfl

theorem pay21_up (q : Fin 256)
    (h : ¬ flag (k1_pay21 (F := Ideal) sel L row)) : Finset.univ.fold max ⊥ (logTerm sel L row q) ≠ ⊥ := by
  rw [← pay20_at]
  intro hb
  apply h
  have e : ∀ M : FVec Ideal S256x1 .f32, extractAt ![0, 0, 0] (shapeCast S1x1x1 (multiReduction .maximumf [1, 2] S1
      (shapeCast S1x256x1 M shapeCasts_S256x1_S1x256x1) 0xFF800000#32 reduces_S1x256x1_S1 (.inl rfl) rfl) shapeCasts_S1_S1x1x1)
        inpos_S1x1x1_p0_0_0 = Finset.univ.fold max (⊥ : EReal) fun x : Fin 256 × Fin 1 => M (ix2 x.1 0) := by
    intro M
    pointwise
    rw [lit_ninf]
  have e2 : k1_pay21 (F := Ideal) sel L row
      = Finset.univ.fold max (⊥ : EReal) fun x : Fin 256 × Fin 1 => emptyRow (k1_pay20 (F := Ideal) sel L row) (ix2 x.1 0) :=
    e (emptyRow (k1_pay20 sel L row))
  rw [e2, flag_iff]
  refine (Finset.lt_fold_max _).2 (.inr ⟨(q, 0), Finset.mem_univ _, ?_⟩)
  rw [emptyRow_at _ _ hb]
  exact zero_lt_one

theorem pay23_at (q : Fin 256) :
    k1_pay23 (F := Ideal) sel L row (ix2 q 0) = Ideal.exp (Finset.univ.fold max ⊥ (logTerm sel L row q)) := by
  have e : ∀ g : FVec Ideal S256x1 .f32, exp g (ix2 q 0) = Ideal.exp (g (ix2 q 0)) := fun g => by pointwise
  exact (e (k1_pay20 (F := Ideal) sel L row)).trans (congrArg Ideal.exp (pay20_at q))

theorem pay22_at (q : Fin 256) :
    k1_pay22 (F := Ideal) sel w row (ix2 q 0)
      = Finset.univ.fold max (⊥ : EReal) fun m => Scalar.select (sel (ix2 q m)) (w (ix2 q m) * row (ix3 0 0 m) : EReal) ⊥ := by
  pointwise [k1_pay22, k1_pay19]
  rw [lit_ninf]

/-- Either way a block computes it, a column is the greatest of the selected products. -/
theorem colMax_at (q : Fin 256) (S : Finset (Fin 4096)) (hS : ∀ m, sel (ix2 q m) = 1#1 ↔ m ∈ S)
    (hw : ∀ m, m ∈ S → w (ix2 q m) = Ideal.exp (L (ix2 q m))) (hL : ∀ m, (L (ix2 q m) : EReal) ≤ 0) :
    colMax sel L w row (ix2 q 0) = S.fold max (⊥ : EReal) fun m => Ideal.exp (L (ix2 q m)) * row (ix3 0 0 m) := by
  unfold colMax
  by_cases hf : flag (k1_pay21 (F := Ideal) sel L row)
  · rw [if_pos hf, pay22_at]
    apply le_antisymm
    · refine (Finset.fold_max_le _).2 ⟨bot_le, fun m _ => ?_⟩
      by_cases hm : m ∈ S
      · rw [select_pos ((hS m).2 hm), hw m hm]
        exact (Finset.le_fold_max _).2 (.inr ⟨m, hm, le_rfl⟩)
      · rw [select_neg fun e => hm ((hS m).1 e)]
        exact bot_le
    · refine (Finset.fold_max_le _).2 ⟨bot_le, fun m hm => (Finset.le_fold_max _).2 (.inr ⟨m, Finset.mem_univ _, ?_⟩)⟩
      rw [select_pos ((hS m).2 hm), hw m hm]
  · rw [if_neg hf, pay23_at]
    have hne := pay21_up q hf
    set g := Finset.univ.fold max ⊥ (logTerm sel L row q) with hg
    have hle : ∀ m, logTerm sel L row q m ≤ g := fun m => (Finset.le_fold_max _).2 (.inr ⟨m, Finset.mem_univ _, le_rfl⟩)
    have hval : ∀ m, m ∈ S → (0 : EReal) < row (ix3 0 0 m) →
        Ideal.exp (logTerm sel L row q m) = Ideal.exp (L (ix2 q m)) * row (ix3 0 0 m) := by
      intro m hm hr
      unfold logTerm
      rw [select_pos ((hS m).2 hm), if_pos hr]
      exact exp_add_log (hL m) hr
    apply le_antisymm
    · rcases (Finset.le_fold_max g).1 hg.le with h | ⟨m, -, h⟩
      · exact absurd (le_bot_iff.1 h) hne
      · have e : g = logTerm sel L row q m := le_antisymm h (hle m)
        have hm : m ∈ S := by
          by_contra hm
          apply hne
          rw [e]
          unfold logTerm
          rw [select_neg fun e => hm ((hS m).1 e), EReal.bot_add]
        have hr : (0 : EReal) < row (ix3 0 0 m) := by
          by_contra hr
          apply hne
          rw [e]
          unfold logTerm
          rw [if_neg hr, EReal.add_bot]
        rw [e, hval m hm hr]
        exact (Finset.le_fold_max _).2 (.inr ⟨m, hm, le_rfl⟩)
    · refine (Finset.fold_max_le _).2 ⟨bot_le, fun m hm => ?_⟩
      by_cases hr : (0 : EReal) < row (ix3 0 0 m)
      · rw [← hval m hm hr]
        exact exp_mono (hle m)
      · exact (mul_nonpos_of_nonneg_of_nonpos (exp_nonneg _) (not_lt.1 hr)).trans (exp_nonneg _)

end Greatest

/-! ### The mean and the output -/

/-- The weight of a distance. -/
def wt (x : EReal) : EReal :=
  Ideal.exp (0 - x * Ideal.ofBits .f32 0x41200000#32 * (x * Ideal.ofBits .f32 0x41200000#32))

theorem pay15_at (D : FVec Ideal S256x4096 .f32) (q : Fin 256) (m : Fin 4096) :
    k1_pay15 (F := Ideal) D (ix2 q m)
      = (0 : EReal) - D (ix2 q m) * Ideal.ofBits .f32 0x41200000#32 * (D (ix2 q m) * Ideal.ofBits .f32 0x41200000#32) := by
  pointwise [k1_pay15]

theorem inv39_eq : (Named.named κ "inv39" 0x3CD20D21#32 : Ideal .f32) = ((1 / 39 : ℝ) : EReal) := rfl

theorem meanOf_at (D : FVec Ideal S256x4096 .f32) (key : IVec S256x4096 32) (p : Vec Ideal S1x4096x22 .f32) (q : Fin 256)
    (o : Fin 22) (S : Finset (Fin 4096)) (hS : ∀ m, selOf (F := Ideal) key (ix2 q m) = 1#1 ↔ m ∈ S) :
    meanOf (F := Ideal) D key p (ix2 q o) = (∑ m ∈ S, wt (D (ix2 q m)) * p (ix3 0 m o)) * ((1 / 39 : ℝ) : EReal) := by
  pointwise [meanOf, k1_pay17, k1_pay16]
  rw [inv39_eq]
  congr 1
  rw [← Finset.sum_filter_add_sum_filter_not Finset.univ (· ∈ S)]
  rw [Finset.sum_congr rfl (g := fun m => wt (D (ix2 q m)) * p (ix3 0 m o)), Finset.sum_congr rfl (s₁ := Finset.univ.filter (· ∉ S)) (g := fun _ => (0 : EReal)),
    Finset.sum_const_zero, add_zero, Finset.filter_univ_mem]
  · intro m hm
    exact select_neg (fun e => (Finset.mem_filter.1 hm).2 ((hS m).1 e)) _ _
  · intro m hm
    refine (select_pos ((hS m).2 (Finset.mem_filter.1 hm).2) _ _).trans ?_
    rw [pay15_at]
    rfl

/-- The output's first parts, from the greatest features as one vector. -/
def headGen (M : FVec Ideal S256x22 .f32) (x : Vec Ideal S1x256x128 .f32) (wv : Vec Ideal S128x48 .f32) (wm : Vec Ideal S22x48 .f32) :
    FVec Ideal S256x48 .f32 :=
  addf (matmul (φ₁ := .f32) (φ₂ := .f32) dot_S256x128_S128x48_S256x48_1_0_0_1_n_n none (shapeCast S256x128 x shapeCasts_S1x256x128_S256x128)
      (shapeCast S128x48 wv shapeCasts_S128x48_S128x48) (constant S256x48 .f32 0x00000000#32))
    (matmul (φ₁ := .f32) (φ₂ := .f32) dot_S256x22_S22x48_S256x48_1_0_0_1_n_n none M (shapeCast S22x48 wm shapeCasts_S22x48_S22x48)
      (constant S256x48 .f32 0x00000000#32))

theorem headGen_at (M : FVec Ideal S256x22 .f32) (x : Vec Ideal S1x256x128 .f32) (wv : Vec Ideal S128x48 .f32) (wm : Vec Ideal S22x48 .f32)
    (q : Fin 256) (o : Fin 48) : headGen M x wv wm (ix2 q o)
      = (∑ f : Fin 128, x (ix3 0 q f) * wv (ix2 f o)) + ∑ p : Fin 22, M (ix2 q p) * wm (ix2 p o) := by
  pointwise [headGen]

theorem cols_cat : Shape.Concatenates (List.ofFn fun _ : Fin 22 => S256x1) S256x22 1 := by decide

theorem headOf_eq (cols : Fin 22 → FVec Ideal S256x1 .f32) (x : Vec Ideal S1x256x128 .f32) (wv : Vec Ideal S128x48 .f32)
    (wm : Vec Ideal S22x48 .f32) : ∃ M : FVec Ideal S256x22 .f32,
      headOf (F := Ideal) cols x wv wm = headGen M x wv wm ∧ ∀ (q : Fin 256) (p : Fin 22), M (ix2 q p) = cols p (ix2 q 0) := by
  refine ⟨concatenate S256x22 1 (List.ofFn fun n : Fin 22 => (⟨S256x1, cols n⟩ : (s : Shape) × (s.Idx → EReal))) (by rw [List.map_ofFn]; exact cols_cat), rfl, fun q p => ?_⟩
  refine concatenate_ofFn_unit_apply (t := S256x22) (s₁ := S256x1) 1 cols _ rfl rfl (ix2 q p) p rfl (ix2 q 0) fun b hb => ?_
  fin_cases b
  · rfl
  · exact absurd rfl hb

theorem pay1_at (mean : FVec Ideal S256x22 .f32) (head : FVec Ideal S256x48 .f32) (wa : Vec Ideal S22x48 .f32) (bo : Vec Ideal S1x48 .f32)
    (q : Fin 256) (o : Fin 48) : k1_pay1 (F := Ideal) mean head (k1_pay141 wa) bo (ix3 0 q o)
      = Ideal.tanh (head (ix2 q o) + (∑ p : Fin 22, mean (ix2 q p) * wa (ix2 p o)) + bo (ix2 0 o)) := by
  pointwise [k1_pay1, k1_pay141]

/-! ### A whole block -/

/-- The neighbour of a given place in the order, the first being left out. -/
def nb (b : Fin 4096 → Fin 4096 → Bool) (i : Fin 39) : Fin 4096 := sortedFrom b (i.succ.castLE forty_le)

theorem nearest_image (b : Fin 4096 → Fin 4096 → Bool) : nearest b = Finset.univ.image (nb b) := by
  ext m
  rw [mem_nearest, Finset.mem_image]
  exact ⟨fun ⟨i, h⟩ => ⟨i, Finset.mem_univ _, h⟩, fun ⟨i, _, h⟩ => ⟨i, h⟩⟩

theorem nb_injective (b : Fin 4096 → Fin 4096 → Bool) : Function.Injective (nb b) := fun _ _ h =>
  Fin.succ_injective _ (Fin.castLE_injective forty_le (sortedFrom_injective b h))

theorem sum_nearest (b : Fin 4096 → Fin 4096 → Bool) (f : Fin 4096 → EReal) : ∑ m ∈ nearest b, f m = ∑ i, f (nb b i) := by
  rw [nearest_image, Finset.sum_image fun _ _ _ _ h => nb_injective b h]

theorem max_nearest (b : Fin 4096 → Fin 4096 → Bool) (f : Fin 4096 → EReal) :
    (nearest b).fold max ⊥ f = Finset.univ.fold max ⊥ fun i => f (nb b i) := by
  rw [nearest_image, Finset.fold_image fun _ _ _ _ h => nb_injective b h]
  rfl

/-- One element of the layer's output, from the distances of one point, their order, the features of all points and the point itself. -/
def layer (D : Fin 4096 → EReal) (b : Fin 4096 → Fin 4096 → Bool) (P : Fin 4096 → Fin 22 → EReal) (X : Fin 128 → EReal)
    (wv : Fin 128 → EReal) (wm wa : Fin 22 → EReal) (bo : EReal) : EReal :=
  Ideal.tanh ((∑ f, X f * wv f) + (∑ p, (Finset.univ.fold max (⊥ : EReal) fun i => wt (D (nb b i)) * P (nb b i) p) * wm p)
    + (∑ p, ((∑ i, wt (D (nb b i)) * P (nb b i) p) * ((1 / 39 : ℝ) : EReal)) * wa p) + bo)

theorem wOf_at (D : FVec Ideal S256x4096 .f32) (key : IVec S256x4096 32) (q : Fin 256) (m : Fin 4096)
    (h : selOf (F := Ideal) key (ix2 q m) = 1#1) : wOf (F := Ideal) D key (ix2 q m) = Ideal.exp (k1_pay15 (F := Ideal) D (ix2 q m)) := by
  pointwise [wOf, k1_pay16]
  exact select_pos h _ _

theorem blockOut_at (dT : Vec Ideal S1x4x4096 .f32) (nr : Vec Ideal S1x1x4096 .f32) (dm : Vec Ideal S1x256x4 .f32)
    (pr : Vec Ideal S1x4096x22 .f32) (rows : Fin 22 → Vec Ideal S1x1x4096 .f32) (x : Vec Ideal S1x256x128 .f32)
    (wv : Vec Ideal S128x48 .f32) (wm wa : Vec Ideal S22x48 .f32) (bo : Vec Ideal S1x48 .f32) (q : Fin 256) (o : Fin 48)
    (hrows : ∀ p m, rows p (ix3 0 0 m) = pr (ix3 0 m p))
    (b : Fin 4096 → Fin 4096 → Bool) (hb : ∀ i j, b i j = true ↔ dist dT nr dm q i < dist dT nr dm q j) :
    blockOut (F := Ideal) dT nr dm pr rows x wv wm wa bo (ix3 0 q o)
      = layer (dist dT nr dm q) b (fun m p => pr (ix3 0 m p)) (fun f => x (ix3 0 q f)) (fun f => wv (ix2 f o)) (fun p => wm (ix2 p o))
          (fun p => wa (ix2 p o)) (bo (ix2 0 o)) := by
  have hS : ∀ m, selOf (F := Ideal) (keyOf dT nr dm) (ix2 q m) = 1#1 ↔ m ∈ nearest b := fun m =>
    sel_iff (key := keyOf (F := Ideal) dT nr dm) (dist dT nr dm) (fun q m => ⟨keyOf_at dT nr dm q m, rank_lt _ _⟩) q b hb m
  unfold blockOut
  rw [pay1_at]
  obtain ⟨M, hM, hM'⟩ := headOf_eq (fun p => colMax (F := Ideal) (selOf (F := Ideal) (keyOf dT nr dm)) (k1_pay15 (F := Ideal) (k1_pay2 dT nr dm))
    (wOf (F := Ideal) (k1_pay2 dT nr dm) (keyOf dT nr dm)) (rows p)) x wv wm
  rw [hM, headGen_at, layer]
  have e1 : ∀ p : Fin 22, M (ix2 q p)
      = Finset.univ.fold max (⊥ : EReal) fun i => wt (dist dT nr dm q (nb b i)) * pr (ix3 0 (nb b i) p) := by
    intro p
    have h := colMax_at (sel := selOf (F := Ideal) (keyOf dT nr dm)) (L := k1_pay15 (F := Ideal) (k1_pay2 dT nr dm))
      (w := wOf (F := Ideal) (k1_pay2 dT nr dm) (keyOf dT nr dm)) (row := rows p) q (nearest b) hS
      (fun m hm => wOf_at _ _ q m ((hS m).2 hm)) (fun m => by rw [pay15_at]; exact sub_sq_nonpos _)
    rw [hM', h, max_nearest]
    refine congrArg (fun f => Finset.fold max (⊥ : EReal) f Finset.univ) (funext fun i => ?_)
    rw [pay15_at, hrows]
    rfl
  have e2 : ∀ p : Fin 22, meanOf (F := Ideal) (k1_pay2 dT nr dm) (keyOf dT nr dm) pr (ix2 q p)
      = (∑ i, wt (dist dT nr dm q (nb b i)) * pr (ix3 0 (nb b i) p)) * ((1 / 39 : ℝ) : EReal) := by
    intro p
    rw [meanOf_at _ _ _ q p (nearest b) hS, sum_nearest]
  simp only [e1, e2]

end Cert.KernelIdeal.Own
end
-- ==== Proof.Proj.lean ====
module
public import proofs.«01_k».proof.Proof.Block
public import proofs.«01_k».proof.Proof.Run
public import Idealize.ShloMosaic.Lib.Claim
public import Idealize.ShloMosaic.Lib.Pointwise
public import Idealize.ShloMosaic.Lib.Pipeline.ValueKit
public import Idealize.ShloMosaic.Lib.IndicatorCount
@[expose] public section
set_option maxRecDepth 16384
noncomputable section
namespace Cert.KernelIdeal.Own
open Idealize.ShloMosaic Idealize.SL.Sem Cert.KernelIdeal Cert.KernelIdeal.Gen

open Idealize.ShloMosaic.Pipeline (Dat Cfg Window BodyObligation cellOf)

/-! What the projection kernel's arrays hold, element by element. -/

/-- The features of every point. -/
def feats (X : FVec Ideal S2x4096x128 .f32) (W : FVec Ideal S128x22 .f32) (B : FVec Ideal S22 .f32) : FVec Ideal S2x4096x22 .f32 :=
  fun i => (∑ f : Fin 128, X (ix3 (i 0) (i 1) f) * W (ix2 f (i 2))) + B (ix1 (i 2))

/-- The coordinates of every point. -/
def coords (X : FVec Ideal S2x4096x128 .f32) (W : FVec Ideal S128x4 .f32) (B : FVec Ideal S4 .f32) : FVec Ideal S2x4096x4 .f32 :=
  fun i => (∑ f : Fin 128, X (ix3 (i 0) (i 1) f) * W (ix2 f (i 2))) + B (ix1 (i 2))

/-- The transposed table: coordinates, squared lengths, features. -/
def table (X : FVec Ideal S2x4096x128 .f32) (Wp : FVec Ideal S128x22 .f32) (Bp : FVec Ideal S22 .f32) (Wd : FVec Ideal S128x4 .f32)
    (Bd : FVec Ideal S4 .f32) : FVec Ideal S2x27x4096 .f32 := fun i =>
  if h : (i 1).val < 4 then coords X Wd Bd (ix3 (i 0) (i 2) ⟨(i 1).val, h⟩)
  else if h' : (i 1).val - 4 < 1 then ∑ k : Fin 4, coords X Wd Bd (ix3 (i 0) (i 2) k) * coords X Wd Bd (ix3 (i 0) (i 2) k)
  else feats X Wp Bp (ix3 (i 0) (i 2) ⟨(i 1).val - 4 - 1, by have : (i 1).val < 27 := (i 1).isLt; omega⟩)

variable (m : (ℓ : Loc nD τ sig) → Buf (Elt Ideal) ℓ) (ρ : Dev nD → PrngReg)

theorem idx0 : ∀ t : Fin cfg0.N, win0_0.index t = ![t.val / 4, t.val % 4, 0] ∧ win0_1.index t = ![0, 0] ∧ win0_2.index t = ![0, 0]
  ∧ win0_3.index t = ![0, 0] ∧ win0_4.index t = ![t.val / 4, t.val % 4, 0] ∧ win0_5.index t = ![t.val / 4, t.val % 4, 0]
  ∧ win0_6.index t = ![t.val / 4, 0, t.val % 4] := (by decide +kernel : ∀ t : Fin grid0.N, _)

abbrev a0 (c : Dev nD) : FVec Ideal S2x4096x128 .f32 := m ((c.tc : Thread nD τ).loc main_arg0)
abbrev a1 (c : Dev nD) : FVec Ideal S128x22 .f32 := m ((c.tc : Thread nD τ).loc main_arg1)
abbrev a2 (c : Dev nD) : FVec Ideal S22 .f32 := m ((c.tc : Thread nD τ).loc main_arg2)
abbrev a3 (c : Dev nD) : FVec Ideal S128x4 .f32 := m ((c.tc : Thread nD τ).loc main_arg3)
abbrev a4 (c : Dev nD) : FVec Ideal S4 .f32 := m ((c.tc : Thread nD τ).loc main_arg4)
abbrev a5 (c : Dev nD) : FVec Ideal S172x48 .f32 := m ((c.tc : Thread nD τ).loc main_arg5)
abbrev a6 (c : Dev nD) : FVec Ideal S48 .f32 := m ((c.tc : Thread nD τ).loc main_arg6)

theorem V1_arg0 (c : Dev nD) : V1 m ρ c main_arg0 = a0 m c := W1_args m ρ c main_arg0 (by decide)
theorem V1_v0 (c : Dev nD) : V1 m ρ c main_v0
    = concatenate S128x26 1 [⟨S128x22, a1 m c⟩, ⟨S128x4, a3 m c⟩] concatenates_S128x22_S128x4_S128x26_d1 := rfl
theorem V1_v2 (c : Dev nD) : V1 m ρ c main_v2
    = shapeCast S1x26 (concatenate S26 0 [⟨S22, a2 m c⟩, ⟨S4, a4 m c⟩] concatenates_S22_S4_S26_d0) shapeCasts_S26_S1x26 := rfl
theorem V1_v3 (c : Dev nD) : V1 m ρ c main_v3
    = shapeCast S26x1 (concatenate S26 0 [⟨S22, a2 m c⟩, ⟨S4, a4 m c⟩] concatenates_S22_S4_S26_d0) shapeCasts_S26_S26x1 := rfl

abbrev w26 (c : Dev nD) : FVec Ideal S128x26 .f32 := V1 m ρ c main_v0
abbrev b26r (c : Dev nD) : FVec Ideal S1x26 .f32 := V1 m ρ c main_v2
abbrev b26c (c : Dev nD) : FVec Ideal S26x1 .f32 := V1 m ρ c main_v3

/-! The joined weights and biases, column by column. -/

theorem w26_lo (c : Dev nD) (f : Fin 128) (p : Fin 22) (h : p.val < 26) : w26 m ρ c (ix2 f ⟨p.val, h⟩) = a1 m c (ix2 f p) := by
  rw [w26, V1_v0]
  pointwise

theorem w26_hi (c : Dev nD) (f : Fin 128) (k : Fin 4) (h : 22 + k.val < 26) :
    w26 m ρ c (ix2 f ⟨22 + k.val, h⟩) = a3 m c (ix2 f k) := by
  rw [w26, V1_v0]
  pointwise

theorem b26_lo (c : Dev nD) (p : Fin 22) (h : p.val < 26) : b26r m ρ c (ix2 0 ⟨p.val, h⟩) = a2 m c (ix1 p)
    ∧ b26c m ρ c (ix2 ⟨p.val, h⟩ 0) = a2 m c (ix1 p) := by
  rw [b26r, b26c, V1_v2, V1_v3]
  constructor <;> pointwise <;> rw [dif_pos p.isLt]

theorem b26_hi (c : Dev nD) (k : Fin 4) (h : 22 + k.val < 26) : b26r m ρ c (ix2 0 ⟨22 + k.val, h⟩) = a4 m c (ix1 k)
    ∧ b26c m ρ c (ix2 ⟨22 + k.val, h⟩ 0) = a4 m c (ix1 k) := by
  rw [b26r, b26c, V1_v2, V1_v3]
  constructor <;> pointwise

/-! A block's projections, from the block's points. -/

/-- A feature of one point of a block. -/
def ff (c : Dev nD) (x : Vec Ideal S1x1024x128 .f32) (n : Fin 1024) (p : Fin 22) : EReal :=
  (∑ f : Fin 128, x (ix3 0 n f) * a1 m c (ix2 f p)) + a2 m c (ix1 p)

/-- A coordinate of one point of a block. -/
def cf (c : Dev nD) (x : Vec Ideal S1x1024x128 .f32) (n : Fin 1024) (k : Fin 4) : EReal :=
  (∑ f : Fin 128, x (ix3 0 n f) * a3 m c (ix2 f k)) + a4 m c (ix1 k)

theorem proj4_at (c : Dev nD) (x : Vec Ideal S1x1024x128 .f32) (n : Fin 1024) (p : Fin 22) :
    k0_pay4 x (w26 m ρ c) (b26r m ρ c) (ix3 0 n p) = ff m c x n p := by
  pointwise [k0_pay4, k0_pay3, k0_pay2, k0_pay1]
  exact congrArg₂ (· + ·) (Finset.sum_congr rfl fun f _ => congrArg (x (ix3 0 n f) * ·) (w26_lo m ρ c f p _)) (b26_lo m ρ c p _).1

theorem proj5_at (c : Dev nD) (x : Vec Ideal S1x1024x128 .f32) (n : Fin 1024) (k : Fin 4) :
    k0_pay5 x (w26 m ρ c) (b26r m ρ c) (ix3 0 n k) = cf m c x n k := by
  pointwise [k0_pay5, k0_pay3, k0_pay2, k0_pay1]
  exact congrArg₂ (· + ·) (Finset.sum_congr rfl fun f _ => congrArg (x (ix3 0 n f) * ·) (w26_hi m ρ c f k _)) (b26_hi m ρ c k _).1

theorem tall_hi (c : Dev nD) (x : Vec Ideal S1x1024x128 .f32) (n : Fin 1024) (k : Fin 4) (h : 22 + k.val < 26) :
    (∑ f : Fin 128, w26 m ρ c (ix2 f ⟨22 + k.val, h⟩) * x (ix3 0 n f)) + b26c m ρ c (ix2 ⟨22 + k.val, h⟩ 0)
      = cf m c x n k := by
  exact congrArg₂ (· + ·) (Finset.sum_congr rfl fun f _ => (mul_comm _ _).trans (congrArg (x (ix3 0 n f) * ·) (w26_hi m ρ c f k _)))
    (b26_hi m ρ c k _).2

theorem tall_lo (c : Dev nD) (x : Vec Ideal S1x1024x128 .f32) (n : Fin 1024) (p : Fin 22) (h : p.val < 26) :
    (∑ f : Fin 128, w26 m ρ c (ix2 f ⟨p.val, h⟩) * x (ix3 0 n f)) + b26c m ρ c (ix2 ⟨p.val, h⟩ 0)
      = ff m c x n p := by
  exact congrArg₂ (· + ·) (Finset.sum_congr rfl fun f _ => (mul_comm _ _).trans (congrArg (x (ix3 0 n f) * ·) (w26_lo m ρ c f p _)))
    (b26_lo m ρ c p _).2

theorem proj6_at (c : Dev nD) (x : Vec Ideal S1x1024x128 .f32) (n : Fin 1024) (r : Fin 27) :
    k0_pay6 x (w26 m ρ c) (b26c m ρ c) (ix3 0 r n)
      = if h : r.val < 4 then cf m c x n ⟨r.val, h⟩
        else if h' : r.val - 4 < 1 then ∑ k, cf m c x n k * cf m c x n k
        else ff m c x n ⟨r.val - 4 - 1, by omega⟩ := by
  pointwise [k0_pay6, k0_pay2, k0_pay1]
  refine dite_congr rfl (fun h => ?_) fun h => dite_congr rfl (fun h' => ?_) fun h' => ?_
  · exact tall_hi m ρ c x n ⟨r.val, h⟩ _
  · exact Finset.sum_congr rfl fun k _ => congrArg₂ (· * ·) (tall_hi m ρ c x n k _) (tall_hi m ρ c x n k _)
  · exact tall_lo m ρ c x n ⟨r.val - 4 - 1, by omega⟩ _

/-! ### The first kernel's arrays -/

/-- The batch entry of a grid point of the first kernel. -/
def bat (t : Fin cfg0.N) : Fin 2 := ⟨t.val / 4, by have : t.val < 8 := t.isLt; omega⟩

/-- The point of a batch entry at a row of a grid point's block. -/
def pos (t : Fin cfg0.N) (n : Fin 1024) : Fin 4096 := ⟨t.val % 4 * 1024 + n.val, by omega⟩

theorem whole0_1 (c : Dev nD) (t : Fin cfg0.N) : iblk0 (V1 m ρ) c 1 t = V1 m ρ c main_v0 := by blk_ext! [iblk0, idx0 t]
theorem whole0_2 (c : Dev nD) (t : Fin cfg0.N) : iblk0 (V1 m ρ) c 2 t = V1 m ρ c main_v2 := by blk_ext! [iblk0, idx0 t]
theorem whole0_3 (c : Dev nD) (t : Fin cfg0.N) : iblk0 (V1 m ρ) c 3 t = V1 m ρ c main_v3 := by blk_ext! [iblk0, idx0 t]

theorem x0_at (c : Dev nD) (t : Fin cfg0.N) (n : Fin 1024) (f : Fin 128) :
    iblk0 (V1 m ρ) c 0 t (ix3 0 n f) = a0 m c (ix3 (bat t) (pos t n) f) := by
  rw [← V1_arg0 m ρ c]
  blk_ext [iblk0, idx0 t, bat, pos]

theorem ff_at (c : Dev nD) (t : Fin cfg0.N) (n : Fin 1024) (p : Fin 22) :
    ff m c (iblk0 (V1 m ρ) c 0 t) n p = feats (a0 m c) (a1 m c) (a2 m c) (ix3 (bat t) (pos t n) p) :=
  congrArg (· + _) (Finset.sum_congr rfl fun f _ => congrArg (· * _) (x0_at m ρ c t n f))

theorem cf_at (c : Dev nD) (t : Fin cfg0.N) (n : Fin 1024) (k : Fin 4) :
    cf m c (iblk0 (V1 m ρ) c 0 t) n k = coords (a0 m c) (a3 m c) (a4 m c) (ix3 (bat t) (pos t n) k) :=
  congrArg (· + _) (Finset.sum_congr rfl fun f _ => congrArg (· * _) (x0_at m ρ c t n f))

theorem arr4 (c : Dev nD) : (dat0 (V1 m ρ) c).arrAt 4 cfg0.N = feats (a0 m c) (a1 m c) (a2 m c) := by
  refine (dat0 (V1 m ρ) c).arrAt_eq_of_covers 4 _ (by decide +kernel) fun t _ y => ?_
  blk_simp
  rw [after0_4]
  unfold out0_4
  frame_out
  obtain ⟨n, p, rfl⟩ : ∃ (n : Fin 1024) (p : Fin 22), y = ix3 0 n p := ⟨y 1, y 2, by blk_ext⟩
  rw [whole0_1, whole0_2]
  refine (proj4_at m ρ c _ n p).trans ((ff_at m ρ c t n p).trans (congrArg (feats _ _ _) ?_))
  blk_ext [idx0 t, bat, pos]

theorem arr5 (c : Dev nD) : (dat0 (V1 m ρ) c).arrAt 5 cfg0.N = coords (a0 m c) (a3 m c) (a4 m c) := by
  refine (dat0 (V1 m ρ) c).arrAt_eq_of_covers 5 _ (by decide +kernel) fun t _ y => ?_
  blk_simp
  rw [after0_5]
  unfold out0_5
  frame_out
  obtain ⟨n, p, rfl⟩ : ∃ (n : Fin 1024) (p : Fin 4), y = ix3 0 n p := ⟨y 1, y 2, by blk_ext⟩
  rw [whole0_1, whole0_2]
  refine (proj5_at m ρ c _ n p).trans ((cf_at m ρ c t n p).trans (congrArg (coords _ _ _) ?_))
  blk_ext [idx0 t, bat, pos]

theorem arr6 (c : Dev nD) : (dat0 (V1 m ρ) c).arrAt 6 cfg0.N = table (a0 m c) (a1 m c) (a2 m c) (a3 m c) (a4 m c) := by
  refine (dat0 (V1 m ρ) c).arrAt_eq_of_covers 6 _ (by decide +kernel) fun t _ y => ?_
  blk_simp
  rw [after0_6]
  unfold out0_6
  frame_out
  obtain ⟨r, n, rfl⟩ : ∃ (r : Fin 27) (n : Fin 1024), y = ix3 0 r n := ⟨y 1, y 2, by blk_ext⟩
  rw [whole0_1, whole0_3]
  refine (proj6_at m ρ c _ n r).trans (Eq.trans ?_ (congrArg (table (a0 m c) (a1 m c) (a2 m c) (a3 m c) (a4 m c))
    (show (ix3 (bat t) r (pos t n) : S2x27x4096.Idx) = _ from ?_)))
  · simp only [cf_at, ff_at]
    rfl
  · blk_ext [idx0 t, bat, pos]

end Cert.KernelIdeal.Own
end
-- ==== Proof.Value.lean ====
module
public import proofs.«01_k».proof.Proof.Proj
public import Idealize.ShloMosaic.Lib.Pointwise
public import Idealize.ShloMosaic.Lib.Pipeline.ValueKit
public import Idealize.ShloMosaic.Lib.IndicatorCount
@[expose] public section
set_option maxRecDepth 16384
noncomputable section
namespace Cert.KernelIdeal.Own
open Idealize.ShloMosaic Idealize.SL.Sem Cert.KernelIdeal Cert.KernelIdeal.Gen

open Idealize.ShloMosaic.Pipeline (Dat Cfg Window BodyObligation cellOf)

/-! What the main kernel's output array holds, element by element. -/

variable (m : (ℓ : Loc nD τ sig) → Buf (Elt Ideal) ℓ) (ρ : Dev nD → PrngReg)
theorem V3_arg0 (c : Dev nD) : V3 m ρ c main_arg0 = a0 m c := W3_args m ρ c main_arg0 (by decide)

theorem V3_prop (c : Dev nD) : V3 m ρ c main_v4_0 = feats (a0 m c) (a1 m c) (a2 m c) :=
  (W3_of m ρ c main_v4_0 (by decide)).trans ((W2_arr m ρ c 4).trans (arr4 m ρ c))

theorem V3_dims (c : Dev nD) : V3 m ρ c main_v4_1 = coords (a0 m c) (a3 m c) (a4 m c) :=
  (W3_of m ρ c main_v4_1 (by decide)).trans ((W2_arr m ρ c 5).trans (arr5 m ρ c))

theorem V3_table (c : Dev nD) : V3 m ρ c main_v4_2 = table (a0 m c) (a1 m c) (a2 m c) (a3 m c) (a4 m c) :=
  (W3_of m ρ c main_v4_2 (by decide)).trans ((W2_arr m ρ c 6).trans (arr6 m ρ c))

theorem V3_v5 (c : Dev nD) : V3 m ρ c main_v5 = extractStridedSlice S128x48 ![0, 0] (a5 m c) slices_S172x48_S128x48_0_0 := by
  show extractStridedSlice S128x48 ![0, 0] (W2 m ρ c (Proc.devRef .tc main_arg5) : FVec Ideal S172x48 .f32) slices_S172x48_S128x48_0_0 = _
  rw [W2_args m ρ c main_arg5 (by decide)]

theorem V3_v6 (c : Dev nD) : V3 m ρ c main_v6 = extractStridedSlice S22x48 ![128, 0] (a5 m c) slices_S172x48_S22x48_128_0 := by
  show extractStridedSlice S22x48 ![128, 0] (W2 m ρ c (Proc.devRef .tc main_arg5) : FVec Ideal S172x48 .f32) slices_S172x48_S22x48_128_0 = _
  rw [W2_args m ρ c main_arg5 (by decide)]

theorem V3_v7 (c : Dev nD) : V3 m ρ c main_v7 = extractStridedSlice S22x48 ![150, 0] (a5 m c) slices_S172x48_S22x48_150_0 := by
  show extractStridedSlice S22x48 ![150, 0] (W2 m ρ c (Proc.devRef .tc main_arg5) : FVec Ideal S172x48 .f32) slices_S172x48_S22x48_150_0 = _
  rw [W2_args m ρ c main_arg5 (by decide)]

theorem V3_v8 (c : Dev nD) : V3 m ρ c main_v8 = shapeCast S1x48 (a6 m c) shapeCasts_S48_S1x48 :=
  congrArg (fun z : FVec Ideal S48 .f32 => shapeCast S1x48 z shapeCasts_S48_S1x48) (W2_args m ρ c main_arg6 (by decide))

/-! ### Reads of the main kernel's windows -/

theorem ld_coord (x1 : Vec Ideal S1x27x4096 .f32) (k : Fin 4) (n : Fin 4096) :
    View.ld x1 (Rect.unit (s := S1x27x4096) ![0, 0, 0] S1x4x4096.size inb_S1x27x4096_S1x4x4096_0_0_0) (ix3 0 k n)
      = x1 (ix3 0 ⟨k.val, by omega⟩ n) := by
  refine congrArg x1 (funext fun a => Fin.ext ((Rect.idx_unit_val _ _ _ _ a).trans ?_))
  fin_cases a
  · rfl
  · exact Nat.zero_add _
  · exact Nat.zero_add _

theorem ld_norm (x1 : Vec Ideal S1x27x4096 .f32) (n : Fin 4096) :
    View.ld x1 (Rect.unit (s := S1x27x4096) ![0, 4, 0] S1x1x4096.size inb_S1x27x4096_S1x1x4096_0_4_0) (ix3 0 0 n)
      = x1 (ix3 0 4 n) := by
  refine congrArg x1 (funext fun a => Fin.ext ((Rect.idx_unit_val _ _ _ _ a).trans ?_))
  fin_cases a
  · rfl
  · rfl
  · exact Nat.zero_add _

theorem ld_row (x1 : Vec Ideal S1x27x4096 .f32) (p : Fin 22) (n : Fin 4096) :
    View.ld x1 (rowRect p) (ix3 0 0 n) = x1 (ix3 0 ⟨5 + p.val, by omega⟩ n) := by
  refine congrArg x1 (funext fun a => Fin.ext ((Rect.idx_unit_val _ _ _ _ a).trans ?_))
  fin_cases a
  · rfl
  · rfl
  · exact Nat.zero_add _

theorem idx1 : ∀ t : Fin cfg1.N, win1_0.index t = ![t.val / 16, t.val % 16, 0] ∧ win1_1.index t = ![t.val / 16, 0, 0]
  ∧ win1_2.index t = ![t.val / 16, 0, 0] ∧ win1_3.index t = ![t.val / 16, t.val % 16, 0] ∧ win1_4.index t = ![0, 0]
  ∧ win1_5.index t = ![0, 0] ∧ win1_6.index t = ![0, 0] ∧ win1_7.index t = ![0, 0] ∧ win1_8.index t = ![t.val / 16, t.val % 16, 0] :=
  (by decide +kernel : ∀ t : Fin grid1.N, _)

/-- The batch entry of a grid point of the main kernel. -/
def bat1 (t : Fin cfg1.N) : Fin 2 := ⟨t.val / 16, by have : t.val < 32 := t.isLt; omega⟩

/-- The point of a batch entry at a row of a grid point's block. -/
def pos1 (t : Fin cfg1.N) (q : Fin 256) : Fin 4096 := ⟨t.val % 16 * 256 + q.val, by omega⟩

/-! The windows' blocks. -/

abbrev xB (c : Dev nD) (t : Fin cfg1.N) : Vec Ideal S1x256x128 .f32 := iblk1 (V3 m ρ) c 0 t
abbrev tB (c : Dev nD) (t : Fin cfg1.N) : Vec Ideal S1x27x4096 .f32 := iblk1 (V3 m ρ) c 1 t
abbrev pB (c : Dev nD) (t : Fin cfg1.N) : Vec Ideal S1x4096x22 .f32 := iblk1 (V3 m ρ) c 2 t
abbrev dB (c : Dev nD) (t : Fin cfg1.N) : Vec Ideal S1x256x4 .f32 := iblk1 (V3 m ρ) c 3 t
abbrev wvB (c : Dev nD) (t : Fin cfg1.N) : Vec Ideal S128x48 .f32 := iblk1 (V3 m ρ) c 4 t
abbrev wmB (c : Dev nD) (t : Fin cfg1.N) : Vec Ideal S22x48 .f32 := iblk1 (V3 m ρ) c 5 t
abbrev waB (c : Dev nD) (t : Fin cfg1.N) : Vec Ideal S22x48 .f32 := iblk1 (V3 m ρ) c 6 t
abbrev boB (c : Dev nD) (t : Fin cfg1.N) : Vec Ideal S1x48 .f32 := iblk1 (V3 m ρ) c 7 t

theorem xB_at (c : Dev nD) (t : Fin cfg1.N) (q : Fin 256) (f : Fin 128) : xB m ρ c t (ix3 0 q f) = a0 m c (ix3 (bat1 t) (pos1 t q) f) := by
  rw [← V3_arg0 m ρ c]
  blk_ext [xB, iblk1, idx1 t, bat1, pos1]

theorem tB_at (c : Dev nD) (t : Fin cfg1.N) (r : Fin 27) (n : Fin 4096) :
    tB m ρ c t (ix3 0 r n) = table (a0 m c) (a1 m c) (a2 m c) (a3 m c) (a4 m c) (ix3 (bat1 t) r n) := by
  rw [← V3_table m ρ c]
  blk_ext [tB, iblk1, idx1 t, bat1]

theorem pB_at (c : Dev nD) (t : Fin cfg1.N) (n : Fin 4096) (p : Fin 22) :
    pB m ρ c t (ix3 0 n p) = feats (a0 m c) (a1 m c) (a2 m c) (ix3 (bat1 t) n p) := by
  rw [← V3_prop m ρ c]
  blk_ext [pB, iblk1, idx1 t, bat1]

theorem dB_at (c : Dev nD) (t : Fin cfg1.N) (q : Fin 256) (k : Fin 4) :
    dB m ρ c t (ix3 0 q k) = coords (a0 m c) (a3 m c) (a4 m c) (ix3 (bat1 t) (pos1 t q) k) := by
  rw [← V3_dims m ρ c]
  blk_ext [dB, iblk1, idx1 t, bat1, pos1]

theorem wvB_at (c : Dev nD) (t : Fin cfg1.N) (f : Fin 128) (o : Fin 48) : wvB m ρ c t (ix2 f o) = a5 m c (ix2 ⟨f.val, by omega⟩ o) := by
  have e : wvB m ρ c t = V3 m ρ c main_v5 := by blk_ext! [wvB, iblk1, idx1 t]
  rw [e, V3_v5]
  pointwise

theorem wmB_at (c : Dev nD) (t : Fin cfg1.N) (p : Fin 22) (o : Fin 48) :
    wmB m ρ c t (ix2 p o) = a5 m c (ix2 ⟨128 + p.val, by omega⟩ o) := by
  have e : wmB m ρ c t = V3 m ρ c main_v6 := by blk_ext! [wmB, iblk1, idx1 t]
  rw [e, V3_v6]
  pointwise

theorem waB_at (c : Dev nD) (t : Fin cfg1.N) (p : Fin 22) (o : Fin 48) :
    waB m ρ c t (ix2 p o) = a5 m c (ix2 ⟨150 + p.val, by omega⟩ o) := by
  have e : waB m ρ c t = V3 m ρ c main_v7 := by blk_ext! [waB, iblk1, idx1 t]
  rw [e, V3_v7]
  pointwise

theorem boB_at (c : Dev nD) (t : Fin cfg1.N) (o : Fin 48) : boB m ρ c t (ix2 0 o) = a6 m c (ix1 o) := by
  have e : boB m ρ c t = V3 m ρ c main_v8 := by blk_ext! [boB, iblk1, idx1 t]
  rw [e, V3_v8]
  pointwise

/-! ### The table's rows -/

section Table

variable (X : FVec Ideal S2x4096x128 .f32) (Wp : FVec Ideal S128x22 .f32) (Bp : FVec Ideal S22 .f32) (Wd : FVec Ideal S128x4 .f32)
  (Bd : FVec Ideal S4 .f32)

theorem table_coord (b : Fin 2) (k : Fin 4) (h : k.val < 27) (n : Fin 4096) :
    table X Wp Bp Wd Bd (ix3 b ⟨k.val, h⟩ n) = coords X Wd Bd (ix3 b n k) := dif_pos k.isLt

theorem table_norm (b : Fin 2) (n : Fin 4096) :
    table X Wp Bp Wd Bd (ix3 b 4 n) = ∑ k : Fin 4, coords X Wd Bd (ix3 b n k) * coords X Wd Bd (ix3 b n k) :=
  (dif_neg (show ¬4 < 4 by decide)).trans (dif_pos (show 4 - 4 < 1 by decide))

theorem table_feat (b : Fin 2) (p : Fin 22) (h : 5 + p.val < 27) (n : Fin 4096) :
    table X Wp Bp Wd Bd (ix3 b ⟨5 + p.val, h⟩ n) = feats X Wp Bp (ix3 b n p) := by
  refine (dif_neg (show ¬5 + p.val < 4 by omega)).trans ((dif_neg (show ¬5 + p.val - 4 < 1 by omega)).trans (congrArg (feats X Wp Bp) ?_))
  exact congrArg (ix3 b n) (Fin.ext (by show 5 + p.val - 4 - 1 = p.val; omega))

/-- The squared distance of two points of a batch entry. -/
def gap (b : Fin 2) (n m : Fin 4096) : EReal :=
  FloatOps.absf (F := Ideal) (φ := .f32) ((∑ k : Fin 4, coords X Wd Bd (ix3 b n k) * coords X Wd Bd (ix3 b n k))
    + (∑ k : Fin 4, coords X Wd Bd (ix3 b m k) * coords X Wd Bd (ix3 b m k))
    - Ideal.ofBits .f32 0x40000000#32 * ∑ k : Fin 4, coords X Wd Bd (ix3 b n k) * coords X Wd Bd (ix3 b m k) : EReal)

open Classical in
/-- Which of two points is nearer to a point. -/
def nearer (b : Fin 2) (n i j : Fin 4096) : Bool := decide (gap X Wd Bd b n i < gap X Wd Bd b n j)

theorem nearer_iff (b : Fin 2) (n i j : Fin 4096) : nearer X Wd Bd b n i j = true ↔ gap X Wd Bd b n i < gap X Wd Bd b n j :=
  decide_eq_true_iff

/-- One element of the layer's output, from the arguments. -/
def outAt (Wo : FVec Ideal S172x48 .f32) (Bo : FVec Ideal S48 .f32) (b : Fin 2) (n : Fin 4096) (o : Fin 48) : EReal :=
  layer (gap X Wd Bd b n) (nearer X Wd Bd b n) (fun m p => feats X Wp Bp (ix3 b m p)) (fun f => X (ix3 b n f))
    (fun f => Wo (ix2 ⟨f.val, by omega⟩ o)) (fun p => Wo (ix2 ⟨128 + p.val, by omega⟩ o)) (fun p => Wo (ix2 ⟨150 + p.val, by omega⟩ o))
    (Bo (ix1 o))

end Table

theorem dist_at (dT : Vec Ideal S1x4x4096 .f32) (nr : Vec Ideal S1x1x4096 .f32) (dm : Vec Ideal S1x256x4 .f32) (q : Fin 256) (n : Fin 4096) :
    dist dT nr dm q n = FloatOps.absf (F := Ideal) (φ := .f32) ((∑ k : Fin 4, dm (ix3 0 q k) * dm (ix3 0 q k)) + nr (ix3 0 0 n)
      - Ideal.ofBits .f32 0x40000000#32 * ∑ k : Fin 4, dm (ix3 0 q k) * dT (ix3 0 k n) : EReal) := by
  pointwise [dist, k1_pay2]

/-- What the main kernel leaves in its output array. -/
theorem final (c : Dev nD) : (dat1 (V3 m ρ) c).arrAt 8 cfg1.N
    = fun i : S2x4096x48.Idx => outAt (a0 m c) (a1 m c) (a2 m c) (a3 m c) (a4 m c) (a5 m c) (a6 m c) (i 0) (i 1) (i 2) := by
  refine (dat1 (V3 m ρ) c).arrAt_eq_of_covers 8 _ (by decide +kernel) fun t _ y => ?_
  blk_simp
  rw [after1_8]
  unfold mainOut
  frame_out
  obtain ⟨q, o, rfl⟩ : ∃ (q : Fin 256) (o : Fin 48), y = ix3 0 q o := ⟨y 1, y 2, by blk_ext⟩
  have e : (ix3 (bat1 t) (pos1 t q) o : S2x4096x48.Idx) = ((cfg1.win 8).blk t).view.emb (ix3 0 q o) := by
    blk_ext [idx1 t, bat1, pos1]
  have hd : ∀ n, dist (View.ld (tB m ρ c t) (Rect.unit (s := S1x27x4096) ![0, 0, 0] S1x4x4096.size inb_S1x27x4096_S1x4x4096_0_0_0))
      (View.ld (tB m ρ c t) (Rect.unit (s := S1x27x4096) ![0, 4, 0] S1x1x4096.size inb_S1x27x4096_S1x1x4096_0_4_0)) (dB m ρ c t) q n
        = gap (a0 m c) (a3 m c) (a4 m c) (bat1 t) (pos1 t q) n := by
    intro n
    have h := fun k => (ld_coord (tB m ρ c t) k n).trans ((tB_at m ρ c t _ n).trans (table_coord _ _ _ _ _ _ k _ n))
    rw [dist_at, gap, ld_norm, tB_at, table_norm]
    simp only [dB_at]
    exact congrArg (fun z : EReal => FloatOps.absf (F := Ideal) (φ := .f32) (_ - Ideal.ofBits .f32 0x40000000#32 * z : EReal))
      (Finset.sum_congr rfl fun k _ => congrArg (_ * ·) (h k))
  refine (blockOut_at _ _ (dB m ρ c t) (pB m ρ c t) _ (xB m ρ c t) (wvB m ρ c t) (wmB m ρ c t) (waB m ρ c t) (boB m ρ c t) q o
    (fun p n => (ld_row (tB m ρ c t) p n).trans ?_) (nearer (a0 m c) (a3 m c) (a4 m c) (bat1 t) (pos1 t q)) ?_).trans ?_
  · rw [tB_at, table_feat, pB_at]
  · intro i j
    rw [hd, hd, nearer_iff]
  · refine Eq.trans ?_ (congrArg (fun i : S2x4096x48.Idx => outAt (a0 m c) (a1 m c) (a2 m c) (a3 m c) (a4 m c) (a5 m c) (a6 m c)
      (i 0) (i 1) (i 2)) e)
    show _ = outAt (a0 m c) (a1 m c) (a2 m c) (a3 m c) (a4 m c) (a5 m c) (a6 m c) (bat1 t) (pos1 t q) o
    unfold outAt
    simp only [pB_at, xB_at, wvB_at, wmB_at, waB_at, boB_at]
    rw [funext hd]

end Cert.KernelIdeal.Own
end
-- ==== Proof.Reference.lean ====
module
public import proofs.«01_k».proof.Proof.Value
public import proofs.«01_k».proof.Proof.Gen.ReferenceIdeal.Run
public import Idealize.ShloMosaic.Lib.Pointwise
public import Idealize.ShloMosaic.Lib.Pipeline.ValueKit
public import Idealize.ShloMosaic.Lib.IndicatorCount
@[expose] public section
set_option maxRecDepth 16384
noncomputable section
namespace Cert.ReferenceIdeal.Own
open Idealize.ShloMosaic Idealize.SL.Sem Cert.ReferenceIdeal Cert.ReferenceIdeal.Gen
open Cert.KernelIdeal.Own (feats coords gap nearer nearer_iff outAt layer wt nb forty_le lit_ninf)

/-! The reference's result, stage by stage. -/

/-- The projected features as the reference computes them. -/
def featR (X : FVec Ideal S2x4096x128 .f32) (W : FVec Ideal S128x22 .f32) (B : FVec Ideal S22 .f32) : FVec Ideal S2x4096x22 .f32 :=
  addf (Host.dotGeneral dot_S2x4096x128_S128x22_S2x4096x22_2_0_01_1_n_n none X W)
    (broadcastInDim S2x4096x22 ![0, 1, 2] bcast_S1x1x22_S2x4096x22_0_1_2 (broadcastInDim S1x1x22 ![2] bcast_S22_S1x1x22_2 B))

/-- The projected coordinates as the reference computes them. -/
def coordR (X : FVec Ideal S2x4096x128 .f32) (W : FVec Ideal S128x4 .f32) (B : FVec Ideal S4 .f32) : FVec Ideal S2x4096x4 .f32 :=
  addf (Host.dotGeneral dot_S2x4096x128_S128x4_S2x4096x4_2_0_01_1_n_n none X W)
    (broadcastInDim S2x4096x4 ![0, 1, 2] bcast_S1x1x4_S2x4096x4_0_1_2 (broadcastInDim S1x1x4 ![2] bcast_S4_S1x1x4_2 B))

/-- The squared length of every point. -/
def normR (c : FVec Ideal S2x4096x4 .f32) : FVec Ideal S2x4096 .f32 :=
  Host.reduceAdd (mulf c c) (constant S_ .f32 0x00000000#32) reducesTo_S2x4096x4_S2x4096_d2 h_S_

/-- The signed squared distance before its absolute value. -/
def rawR (c : FVec Ideal S2x4096x4 .f32) : FVec Ideal S2x4096x4096 .f32 :=
  addf (addf (mulf (broadcastInDim S2x4096x4096 ![] bcast_S_S2x4096x4096 (constant S_ .f32 0xC0000000#32))
      (Host.dotGeneral dot_S2x4096x4_S2x4x4096_S2x4096x4096_2_1_1_2_0_0 none c (transpose S2x4x4096 [0, 2, 1] c transposes_S2x4096x4_S2x4x4096_0_2_1)))
    (broadcastInDim S2x4096x4096 ![0, 1, 2] bcast_S2x4096x1_S2x4096x4096_0_1_2 (broadcastInDim S2x4096x1 ![0, 1] bcast_S2x4096_S2x4096x1_0_1 (normR c))))
    (broadcastInDim S2x4096x4096 ![0, 1, 2] bcast_S2x1x4096_S2x4096x4096_0_1_2
      (transpose S2x1x4096 [0, 2, 1] (broadcastInDim S2x4096x1 ![0, 1] bcast_S2x4096_S2x4096x1_0_1 (normR c)) transposes_S2x4096x1_S2x1x4096_0_2_1))

/-- What the reference ranks: the negated distance. -/
def negR (c : FVec Ideal S2x4096x4 .f32) : FVec Ideal S2x4096x4096 .f32 := Host.negf (Host.absf (rawR c))

/-- The forty greatest values of each row. -/
def topV (v : FVec Ideal S2x4096x4096 .f32) : FVec Ideal S2x4096x40 .f32 :=
  (Host.topK S2x4096x40 2 (FloatOps.cmpfTotal (F := Ideal) (φ := .f32) .gt) v sliceFits_S2x4096x4096_S2x4096x40).1

/-- Their positions. -/
def topI (v : FVec Ideal S2x4096x4096 .f32) : IVec S2x4096x40 32 :=
  (Host.topK S2x4096x40 2 (FloatOps.cmpfTotal (F := Ideal) (φ := .f32) .gt) v sliceFits_S2x4096x4096_S2x4096x40).2

/-- The positions with the wrap of a negative one. -/
def wrapR (k : IVec S2x4096x40 32) : IVec S2x4096x40 32 :=
  select (cmpi .slt k (broadcastInDim S2x4096x40 ![] bcast_S_S2x4096x40 (constantI S_ 32 0#32)))
    (addi k (broadcastInDim S2x4096x40 ![] bcast_S_S2x4096x40 (constantI S_ 32 4096#32))) k

/-- The neighbours' features. -/
def gathR (P : FVec Ideal S2x4096x22 .f32) (k : IVec S2x4096x40 32) : FVec Ideal S2x4096x40x22 .f32 :=
  Host.gather gather_S2x4096x22_S2x4096x40x1_S2x4096x40x22_3_1_0_0_1_3_1122 P
    (broadcastInDim S2x4096x40x1 ![0, 1, 2] bcast_S2x4096x40_S2x4096x40x1_0_1_2 k)

/-- Ten times the distance. -/
def tenR (v : FVec Ideal S2x4096x40 .f32) : FVec Ideal S2x4096x40x1 .f32 :=
  mulf (broadcastInDim S2x4096x40x1 ![0, 1, 2] bcast_S2x4096x40_S2x4096x40x1_0_1_2 (Host.negf v))
    (broadcastInDim S2x4096x40x1 ![] bcast_S_S2x4096x40x1 (constant S_ .f32 0x41200000#32))

/-- The weighted features of the thirty-nine neighbours. -/
def prodR (v : FVec Ideal S2x4096x40 .f32) (G : FVec Ideal S2x4096x40x22 .f32) : FVec Ideal S2x4096x39x22 .f32 :=
  mulf (broadcastInDim S2x4096x39x22 ![0, 1, 2, 3] bcast_S2x4096x39x1_S2x4096x39x22_0_1_2_3
      (extractStridedSlice S2x4096x39x1 ![0, 0, 1, 0] (Host.exp (Host.negf (mulf (tenR v) (tenR v)))) slices_S2x4096x40x1_S2x4096x39x1_0_0_1_0))
    (extractStridedSlice S2x4096x39x22 ![0, 0, 1, 0] G slices_S2x4096x40x22_S2x4096x39x22_0_0_1_0)

/-- The greatest over the neighbours. -/
def maxR (E : FVec Ideal S2x4096x39x22 .f32) : FVec Ideal S2x4096x22 .f32 :=
  Host.reduce FloatOps.maximumf E (constant S_ .f32 0xFF800000#32) reducesTo_S2x4096x39x22_S2x4096x22_d2 h_S_

/-- The mean over the neighbours. -/
def meanR (E : FVec Ideal S2x4096x39x22 .f32) : FVec Ideal S2x4096x22 .f32 :=
  Host.divf (Host.reduceAdd E (constant S_ .f32 0x00000000#32) reducesTo_S2x4096x39x22_S2x4096x22_d2 h_S_)
    (broadcastInDim S2x4096x22 ![] bcast_S_S2x4096x22 (constant S_ .f32 0x421C0000#32))

/-- The final dense layer over the inputs, the greatest and the mean. -/
def denseR (X : FVec Ideal S2x4096x128 .f32) (M A : FVec Ideal S2x4096x22 .f32) (W : FVec Ideal S172x48 .f32) (B : FVec Ideal S48 .f32) :
    FVec Ideal S2x4096x48 .f32 :=
  Host.tanh (addf (Host.dotGeneral dot_S2x4096x172_S172x48_S2x4096x48_2_0_01_1_n_n none
      (concatenate S2x4096x172 2 [⟨S2x4096x128, X⟩, ⟨S2x4096x44,
        concatenate S2x4096x44 2 [⟨S2x4096x22, M⟩, ⟨S2x4096x22, A⟩] concatenates_S2x4096x22_S2x4096x22_S2x4096x44_d2⟩]
        concatenates_S2x4096x128_S2x4096x44_S2x4096x172_d2) W)
    (broadcastInDim S2x4096x48 ![0, 1, 2] bcast_S1x1x48_S2x4096x48_0_1_2 (broadcastInDim S1x1x48 ![2] bcast_S48_S1x1x48_2 B)))

/-- The weighted neighbour features from the coordinates and the features. -/
def wedR (c : FVec Ideal S2x4096x4 .f32) (P : FVec Ideal S2x4096x22 .f32) : FVec Ideal S2x4096x39x22 .f32 :=
  prodR (topV (negR c)) (gathR P (wrapR (topI (negR c))))

theorem res_eq (m : (ℓ : Loc nD τ sig) → Buf (Elt Ideal) ℓ) (c : Dev nD) :
    Value.res_main_v53 (F := Ideal) m c
      = denseR (m ((c.tc : Thread nD τ).loc main_arg0))
        (maxR (wedR (coordR (m ((c.tc : Thread nD τ).loc main_arg0)) (m ((c.tc : Thread nD τ).loc main_arg3)) (m ((c.tc : Thread nD τ).loc main_arg4)))
          (featR (m ((c.tc : Thread nD τ).loc main_arg0)) (m ((c.tc : Thread nD τ).loc main_arg1)) (m ((c.tc : Thread nD τ).loc main_arg2)))))
        (meanR (wedR (coordR (m ((c.tc : Thread nD τ).loc main_arg0)) (m ((c.tc : Thread nD τ).loc main_arg3)) (m ((c.tc : Thread nD τ).loc main_arg4)))
          (featR (m ((c.tc : Thread nD τ).loc main_arg0)) (m ((c.tc : Thread nD τ).loc main_arg1)) (m ((c.tc : Thread nD τ).loc main_arg2)))))
        (m ((c.tc : Thread nD τ).loc main_arg5)) (m ((c.tc : Thread nD τ).loc main_arg6)) := rfl

theorem featR_eq (X : FVec Ideal S2x4096x128 .f32) (W : FVec Ideal S128x22 .f32) (B : FVec Ideal S22 .f32) : featR X W B = feats X W B := by
  funext i
  obtain ⟨b, n, p, rfl⟩ : ∃ b n p, i = ix3 b n p := ⟨_, _, _, eq_ix3 i⟩
  show _ = (∑ f : Fin 128, X (ix3 b n f) * W (ix2 f p)) + B (ix1 p)
  pointwise [featR]

theorem coordR_eq (X : FVec Ideal S2x4096x128 .f32) (W : FVec Ideal S128x4 .f32) (B : FVec Ideal S4 .f32) : coordR X W B = coords X W B := by
  funext i
  obtain ⟨b, n, p, rfl⟩ : ∃ b n p, i = ix3 b n p := ⟨_, _, _, eq_ix3 i⟩
  show _ = (∑ f : Fin 128, X (ix3 b n f) * W (ix2 f p)) + B (ix1 p)
  pointwise [coordR]

theorem normR_at (c : FVec Ideal S2x4096x4 .f32) (b : Fin 2) (n : Fin 4096) :
    normR c (ix2 b n) = ∑ k : Fin 4, c (ix3 b n k) * c (ix3 b n k) := by
  pointwise [normR]

theorem rawR_at (c : FVec Ideal S2x4096x4 .f32) (b : Fin 2) (n m : Fin 4096) :
    rawR c (ix3 b n m) = Ideal.ofBits .f32 0xC0000000#32 * (∑ k : Fin 4, c (ix3 b n k) * c (ix3 b m k))
      + normR c (ix2 b n) + normR c (ix2 b m) := by
  pointwise [rawR]

theorem two_neg : Ideal.ofBits .f32 0xC0000000#32 = -(Ideal.ofBits .f32 0x40000000#32) := by
  simp [Ideal.ofBits, Ideal.ieee]

theorem negR_at (X : FVec Ideal S2x4096x128 .f32) (W : FVec Ideal S128x4 .f32) (B : FVec Ideal S4 .f32) (b : Fin 2) (n m : Fin 4096) :
    negR (coords X W B) (ix3 b n m) = -(gap X W B b n m) := by
  show -(FloatOps.absf (F := Ideal) (φ := .f32) (rawR (coords X W B) (ix3 b n m))) = _
  rw [rawR_at, normR_at, normR_at, two_neg, EReal.neg_mul, add_assoc, add_comm, ← sub_eq_add_neg]
  rfl

theorem ofBool_one (b : Bool) : BitVec.ofBool b = 1#1 ↔ b = true := by cases b <;> decide

/-- The order in which the reference ranks a row. -/
abbrev ord (v : FVec Ideal S2x4096x4096 .f32) (b : Fin 2) (n i j : Fin 4096) : Bool :=
  FloatOps.cmpfTotal (F := Ideal) (φ := .f32) .gt (v (ix3 b n i)) (v (ix3 b n j)) == 1#1

theorem along_ix3 (b : Fin 2) (n k m : Fin 4096) :
    Shape.Idx.along (s := S2x4096x4096) (ix3 b n k) 2 m = ix3 b n m := by
  funext a
  fin_cases a
  · rfl
  · rfl
  · rfl

theorem cut_ix3 (b : Fin 2) (n : Fin 4096) (j : Fin 40) (α : Type) (f : S2x4096x4096.Idx → α) :
    extractStridedSlice S2x4096x40 (fun _ => 0) f sliceFits_S2x4096x4096_S2x4096x40 (ix3 b n j)
      = f (ix3 b n (j.castLE forty_le)) := by
  refine congrArg f (funext fun a => Fin.ext ?_)
  fin_cases a
  · exact Nat.zero_add _
  · exact Nat.zero_add _
  · exact Nat.zero_add _

/-- A row of a sort of two operands along the last axis: the sorting position is the row's own. -/
theorem sort_fst {α β : Type} (cmp : α × β → α × β → BitVec 1) (x : S2x4096x4096.Idx → α) (y : S2x4096x4096.Idx → β)
    (b : Fin 2) (n k : Fin 4096) : (Host.sort2 S2x4096x4096 2 cmp x y).1 (ix3 b n k)
      = x (ix3 b n (sortedFrom (fun i i' => cmp (x (ix3 b n i), y (ix3 b n i)) (x (ix3 b n i'), y (ix3 b n i')) == 1#1) k)) := by
  refine (congrArg x (along_ix3 b n k _)).trans (congrArg (fun o => x (ix3 b n (sortedFrom o k))) (funext fun i => funext fun i' => ?_))
  exact congrArg₂ (fun u w => cmp (x u, y u) (x w, y w) == 1#1) (along_ix3 b n k i) (along_ix3 b n k i')

theorem sort_snd {α β : Type} (cmp : α × β → α × β → BitVec 1) (x : S2x4096x4096.Idx → α) (y : S2x4096x4096.Idx → β)
    (b : Fin 2) (n k : Fin 4096) : (Host.sort2 S2x4096x4096 2 cmp x y).2 (ix3 b n k)
      = y (ix3 b n (sortedFrom (fun i i' => cmp (x (ix3 b n i), y (ix3 b n i)) (x (ix3 b n i'), y (ix3 b n i')) == 1#1) k)) := by
  refine (congrArg y (along_ix3 b n k _)).trans (congrArg (fun o => y (ix3 b n (sortedFrom o k))) (funext fun i => funext fun i' => ?_))
  exact congrArg₂ (fun u w => cmp (x u, y u) (x w, y w) == 1#1) (along_ix3 b n k i) (along_ix3 b n k i')

theorem topV_at (v : FVec Ideal S2x4096x4096 .f32) (b : Fin 2) (n : Fin 4096) (j : Fin 40) :
    topV v (ix3 b n j) = v (ix3 b n (sortedFrom (ord v b n) (j.castLE forty_le))) := by
  unfold topV Host.topK
  dsimp only
  rw [cut_ix3, sort_fst]

theorem topI_at (v : FVec Ideal S2x4096x4096 .f32) (b : Fin 2) (n : Fin 4096) (j : Fin 40) :
    topI v (ix3 b n j) = BitVec.ofNat 32 (sortedFrom (ord v b n) (j.castLE forty_le)).val := by
  unfold topI Host.topK
  dsimp only
  rw [cut_ix3, sort_snd, dif_pos (by decide)]
  rfl

theorem ord_eq (X : FVec Ideal S2x4096x128 .f32) (W : FVec Ideal S128x4 .f32) (B : FVec Ideal S4 .f32) (b : Fin 2) (n : Fin 4096) :
    ord (negR (coords X W B)) b n = nearer X W B b n := by
  funext i j
  rw [Bool.eq_iff_iff, nearer_iff]
  show (FloatOps.cmpfTotal (F := Ideal) (φ := .f32) .gt (negR (coords X W B) (ix3 b n i)) (negR (coords X W B) (ix3 b n j)) == 1#1) = true ↔ _
  rw [negR_at, negR_at]
  show (BitVec.ofBool (decide (-gap X W B b n j < -gap X W B b n i)) == 1#1) = true ↔ _
  rw [beq_iff_eq, ofBool_one, decide_eq_true_iff, EReal.neg_lt_neg_iff]

theorem word_toInt (k : Fin 4096) : (BitVec.ofNat 32 k.val).toInt = (k.val : ℤ) := by
  have hk := k.isLt
  rw [BitVec.toInt_eq_toNat_of_lt (by rw [BitVec.toNat_ofNat]; omega), BitVec.toNat_ofNat]
  omega

theorem wrapR_at (K : IVec S2x4096x40 32) (b : Fin 2) (n : Fin 4096) (j : Fin 40) (k : Fin 4096)
    (h : K (ix3 b n j) = BitVec.ofNat 32 k.val) : wrapR K (ix3 b n j) = BitVec.ofNat 32 k.val := by
  have h0 : IntOp.cmpi .slt (BitVec.ofNat 32 k.val) 0#32 = 0#1 := by
    show BitVec.ofBool (BitVec.slt _ _) = 0#1
    rw [BitVec.slt, word_toInt, decide_eq_false (by simp)]
    rfl
  show Scalar.select (IntOp.cmpi .slt (K (ix3 b n j)) 0#32) (IntOp.addi (K (ix3 b n j)) 4096#32) (K (ix3 b n j)) = _
  rw [h, h0]; rfl

theorem gathR_at (P : FVec Ideal S2x4096x22 .f32) (K : IVec S2x4096x40 32) (b : Fin 2) (n : Fin 4096) (j : Fin 40) (p : Fin 22) (k : Fin 4096)
    (h : K (ix3 b n j) = BitVec.ofNat 32 k.val) : gathR P K (ix4 b n j p) = P (ix3 b k p) := by
  refine congrArg P (funext fun a => Fin.ext ?_)
  fin_cases a
  · show 0 + b.val + 0 = b.val
    omega
  · show min (K _).toInt.toNat (4096 - 1) + 0 + 0 = k.val
    have hk := k.isLt
    refine Eq.trans (congrArg (fun w : BitVec 32 => min w.toInt.toNat (4096 - 1) + 0 + 0) (Eq.trans (congrArg K ?_) h)) ?_
    · funext a
      fin_cases a
      · rfl
      · rfl
      · rfl
    · show min (BitVec.ofNat 32 k.val).toInt.toNat (4096 - 1) + 0 + 0 = k.val
      rw [word_toInt]; omega
  · show 0 + 0 + p.val = p.val
    omega

theorem tenR_at (v : FVec Ideal S2x4096x40 .f32) (b : Fin 2) (n : Fin 4096) (j : Fin 40) :
    tenR v (ix4 b n j 0) = -(v (ix3 b n j)) * Ideal.ofBits .f32 0x41200000#32 := by
  pointwise [tenR]

theorem prodR_at (v : FVec Ideal S2x4096x40 .f32) (G : FVec Ideal S2x4096x40x22 .f32) (b : Fin 2) (n : Fin 4096) (i : Fin 39) (p : Fin 22) :
    prodR v G (ix4 b n i p) = wt (-(v (ix3 b n i.succ))) * G (ix4 b n i.succ p) := by
  have e : (⟨1 + i.val, by omega⟩ : Fin 40) = i.succ := Fin.ext (Nat.add_comm _ _)
  pointwise [prodR]
  rw [e, tenR_at, wt, zero_sub]

theorem maxR_at (E : FVec Ideal S2x4096x39x22 .f32) (b : Fin 2) (n : Fin 4096) (p : Fin 22) :
    maxR E (ix3 b n p) = Finset.univ.fold max (⊥ : EReal) fun i : Fin 39 => E (ix4 b n i p) := by
  pointwise [maxR]
  rw [lit_ninf]

theorem lit_39 : Ideal.ofBits .f32 0x421C0000#32 = ((39 : ℝ) : EReal) := by
  simp [Ideal.ofBits, Ideal.ieee]
  rw [← EReal.coe_mul]
  norm_num

theorem meanR_at (E : FVec Ideal S2x4096x39x22 .f32) (b : Fin 2) (n : Fin 4096) (p : Fin 22) :
    meanR E (ix3 b n p) = (∑ i : Fin 39, E (ix4 b n i p)) * ((1 / 39 : ℝ) : EReal) := by
  pointwise [meanR]
  rw [lit_39, Ideal.div_coe (by norm_num)]

/-- A sum over the joined columns splits at the joins. -/
theorem sum_split (f : Fin 128 → EReal) (g h : Fin 22 → EReal) (w : Fin 172 → EReal) :
    (∑ x : Fin 172, (if h₁ : x.val < 128 then f ⟨x.val, h₁⟩ else if h₂ : x.val - 128 < 22 then g ⟨x.val - 128, h₂⟩
      else h ⟨x.val - 128 - 22, by omega⟩) * w x)
      = (∑ x : Fin 128, f x * w ⟨x.val, by omega⟩) + (∑ p : Fin 22, g p * w ⟨128 + p.val, by omega⟩) + ∑ p : Fin 22, h p * w ⟨150 + p.val, by omega⟩ := by
  refine (Fin.sum_univ_add (a := 128 + 22) (b := 22) _).trans ?_
  rw [Fin.sum_univ_add]
  refine congrArg₂ (· + ·) (congrArg₂ (· + ·) (Finset.sum_congr rfl fun x _ => ?_) (Finset.sum_congr rfl fun x _ => ?_))
    (Finset.sum_congr rfl fun x _ => ?_)
  · have hx := x.isLt
    rw [dif_pos (show (Fin.castAdd 22 (Fin.castAdd 22 x)).val < 128 from x.isLt)]
    rfl
  · have hx := x.isLt
    rw [dif_neg (show ¬(Fin.castAdd 22 (Fin.natAdd 128 x)).val < 128 by show ¬128 + x.val < 128; omega),
      dif_pos (show (Fin.castAdd 22 (Fin.natAdd 128 x)).val - 128 < 22 by show 128 + x.val - 128 < 22; omega)]
    exact congrArg₂ (· * ·) (congrArg g (Fin.ext (by show 128 + x.val - 128 = x.val; omega))) rfl
  · have hx := x.isLt
    rw [dif_neg (show ¬(Fin.natAdd (128 + 22) x).val < 128 by show ¬128 + 22 + x.val < 128; omega),
      dif_neg (show ¬(Fin.natAdd (128 + 22) x).val - 128 < 22 by show ¬128 + 22 + x.val - 128 < 22; omega)]
    exact congrArg₂ (· * ·) (congrArg h (Fin.ext (by show 128 + 22 + x.val - 128 - 22 = x.val; omega))) rfl

theorem denseR_at (X : FVec Ideal S2x4096x128 .f32) (M A : FVec Ideal S2x4096x22 .f32) (W : FVec Ideal S172x48 .f32) (B : FVec Ideal S48 .f32)
    (b : Fin 2) (n : Fin 4096) (o : Fin 48) :
    denseR X M A W B (ix3 b n o) = Ideal.tanh ((∑ f : Fin 128, X (ix3 b n f) * W (ix2 ⟨f.val, by omega⟩ o))
      + (∑ p : Fin 22, M (ix3 b n p) * W (ix2 ⟨128 + p.val, by omega⟩ o))
      + (∑ p : Fin 22, A (ix3 b n p) * W (ix2 ⟨150 + p.val, by omega⟩ o)) + B (ix1 o)) := by
  pointwise [denseR]
  refine congrArg (fun z => Ideal.tanh (z + B (ix1 o))) ?_
  exact sum_split (fun f => X (ix3 b n f)) (fun p => M (ix3 b n p)) (fun p => A (ix3 b n p)) (fun j => W (ix2 j o))

theorem wedR_at (X : FVec Ideal S2x4096x128 .f32) (W : FVec Ideal S128x4 .f32) (B : FVec Ideal S4 .f32) (P : FVec Ideal S2x4096x22 .f32)
    (b : Fin 2) (n : Fin 4096) (i : Fin 39) (p : Fin 22) :
    wedR (coords X W B) P (ix4 b n i p)
      = wt (gap X W B b n (nb (nearer X W B b n) i)) * P (ix3 b (nb (nearer X W B b n) i) p) := by
  rw [wedR, prodR_at, gathR_at P _ b n i.succ p _ (wrapR_at _ b n i.succ _ (topI_at _ b n i.succ)), topV_at, negR_at, neg_neg, ord_eq]
  rfl

/-- The reference's result, element by element. -/
theorem value (X : FVec Ideal S2x4096x128 .f32) (Wp : FVec Ideal S128x22 .f32) (Bp : FVec Ideal S22 .f32) (Wd : FVec Ideal S128x4 .f32)
    (Bd : FVec Ideal S4 .f32) (Wo : FVec Ideal S172x48 .f32) (Bo : FVec Ideal S48 .f32) :
    denseR X (maxR (wedR (coordR X Wd Bd) (featR X Wp Bp))) (meanR (wedR (coordR X Wd Bd) (featR X Wp Bp))) Wo Bo
      = fun i : S2x4096x48.Idx => outAt X Wp Bp Wd Bd Wo Bo (i 0) (i 1) (i 2) := by
  funext i
  obtain ⟨b, n, o, rfl⟩ : ∃ b n o, i = ix3 b n o := ⟨_, _, _, eq_ix3 i⟩
  show _ = outAt X Wp Bp Wd Bd Wo Bo b n o
  rw [denseR_at, coordR_eq, featR_eq]
  simp only [maxR_at, meanR_at, wedR_at]
  rfl

end Cert.ReferenceIdeal.Own
-- ==== Proof.Final.lean ====
module

public import proofs.«01_k».proof.Defs
public import proofs.«01_k».proof.Proof.Reference
public import Idealize.ShloMosaic.Lib.Quiescent

/-! The reference's frame, and the equality of the two results. -/

@[expose] public section

noncomputable section

namespace Cert.Proof

open Idealize.ShloMosaic Idealize.SL.Sem

theorem frameReference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal := by
  intro m ρ m' ρ' _ hagree
  refine ⟨_, (θ_run (Cert.KernelIdeal.defs (F := Ideal)) _ _).mono (fun _ h => h.1) (Cert.KernelIdeal.Own.run_main (F := Ideal) m ρ), ?_⟩
  refine (θ_run (Cert.ReferenceIdeal.defs (F := Ideal)) _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Own.res_eq, e0, e1, e2, e3, e4, e5, e6]
  exact (Cert.ReferenceIdeal.Own.value _ _ _ _ _ _ _).trans (Cert.KernelIdeal.Own.final m ρ c).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Final
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    frameKernel, frameIdeal, frameReference, keeps, algebraic⟩

end Cert.Proof

end
